-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "two_over_sigma" .f32 0x41C80000#32 ((134217728 / 5368709 : ℝ) : EReal)
  ∧ IdealRules.named_const.Statement Cert.KernelIdeal.κ "taken" .f32 0x7F61B1E6#32 ⊤
  ∧ IdealRules.named_const.Statement Cert.KernelIdeal.κ "inv_sigma" .f32 0x41480000#32 ((67108864 / 5368709 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x3x1024 : Shape := ⟨3, ![2, 3, 1024]⟩
abbrev S2x32x1024x20 : Shape := ⟨4, ![2, 32, 1024, 20]⟩
abbrev S20x3x3 : Shape := ⟨3, ![20, 3, 3]⟩
abbrev S16x3 : Shape := ⟨2, ![16, 3]⟩
abbrev S64x512 : Shape := ⟨2, ![64, 512]⟩
abbrev S3x16 : Shape := ⟨2, ![3, 16]⟩
abbrev S20x3x16 : Shape := ⟨3, ![20, 3, 16]⟩
abbrev S3x20x16 : Shape := ⟨3, ![3, 20, 16]⟩
abbrev S20x16x3 : Shape := ⟨3, ![20, 16, 3]⟩
abbrev S320x3 : Shape := ⟨2, ![320, 3]⟩
abbrev S_ : Shape := ⟨0, ![]⟩
abbrev S320 : Shape := ⟨1, ![320]⟩
abbrev S320x1 : Shape := ⟨2, ![320, 1]⟩
abbrev S2x1024x3 : Shape := ⟨3, ![2, 1024, 3]⟩
abbrev S2x20x32x1024 : Shape := ⟨4, ![2, 20, 32, 1024]⟩
abbrev S2x640x1024 : Shape := ⟨3, ![2, 640, 1024]⟩
abbrev S2x646x1024 : Shape := ⟨3, ![2, 646, 1024]⟩
abbrev S64x32x16 : Shape := ⟨3, ![64, 32, 16]⟩
abbrev S64x16x32 : Shape := ⟨3, ![64, 16, 32]⟩
abbrev S2x64x20x1024 : Shape := ⟨4, ![2, 64, 20, 1024]⟩
abbrev S1x1024x3 : Shape := ⟨3, ![1, 1024, 3]⟩
abbrev S1x3x128 : Shape := ⟨3, ![1, 3, 128]⟩
abbrev S1x646x1024 : Shape := ⟨3, ![1, 646, 1024]⟩
abbrev S1x64x20x128 : Shape := ⟨4, ![1, 64, 20, 128]⟩
abbrev S1024x3 : Shape := ⟨2, ![1024, 3]⟩
abbrev S3x128 : Shape := ⟨2, ![3, 128]⟩
abbrev S646x1024 : Shape := ⟨2, ![646, 1024]⟩
abbrev S1024x1 : Shape := ⟨2, ![1024, 1]⟩
abbrev S1x128 : Shape := ⟨2, ![1, 128]⟩
abbrev S1024x128 : Shape := ⟨2, ![1024, 128]⟩
abbrev S128 : Shape := ⟨1, ![128]⟩
abbrev S1024x2048 : Shape := ⟨2, ![1024, 2048]⟩
abbrev S1x2048 : Shape := ⟨2, ![1, 2048]⟩
abbrev S646x2048 : Shape := ⟨2, ![646, 2048]⟩
abbrev S3x2048 : Shape := ⟨2, ![3, 2048]⟩
abbrev S320x2048 : Shape := ⟨2, ![320, 2048]⟩
abbrev S32x2048 : Shape := ⟨2, ![32, 2048]⟩
abbrev S16x2048 : Shape := ⟨2, ![16, 2048]⟩
abbrev S16x128 : Shape := ⟨2, ![16, 128]⟩
abbrev S16x1x128 : Shape := ⟨3, ![16, 1, 128]⟩
abbrev S32x128 : Shape := ⟨2, ![32, 128]⟩
abbrev S1x32x128 : Shape := ⟨3, ![1, 32, 128]⟩
abbrev S16x32x128 : Shape := ⟨3, ![16, 32, 128]⟩
abbrev S512x128 : Shape := ⟨2, ![512, 128]⟩
abbrev S64x128 : Shape := ⟨2, ![64, 128]⟩
abbrev S1x64x1x128 : Shape := ⟨4, ![1, 64, 1, 128]⟩
abbrev S2x64x1024x20 : Shape := ⟨4, ![2, 64, 1024, 20]⟩

abbrev nBuf : Space → Nat
  | .hbm => 34
  | .vmem => 11
  | .smem => 0
  | _ => 0

abbrev bufTy : (tb : Table) → Fin (tcTables nBuf tb) → BufTy
  | .hbm, ⟨0, _⟩ => ⟨S2x3x1024, .f32⟩
  | .hbm, ⟨1, _⟩ => ⟨S2x32x1024x20, .f32⟩
  | .hbm, ⟨2, _⟩ => ⟨S20x3x3, .f32⟩
  | .hbm, ⟨3, _⟩ => ⟨S16x3, .f32⟩
  | .hbm, ⟨4, _⟩ => ⟨S64x512, .f32⟩
  | .hbm, ⟨5, _⟩ => ⟨S3x16, .f32⟩
  | .hbm, ⟨6, _⟩ => ⟨S20x3x16, .f32⟩
  | .hbm, ⟨7, _⟩ => ⟨S3x20x16, .f32⟩
  | .hbm, ⟨8, _⟩ => ⟨S20x16x3, .f32⟩
  | .hbm, ⟨9, _⟩ => ⟨S320x3, .f32⟩
  | .hbm, ⟨10, _⟩ => ⟨S320x3, .f32⟩
  | .hbm, ⟨11, _⟩ => ⟨S_, .f32⟩
  | .hbm, ⟨12, _⟩ => ⟨S320, .f32⟩
  | .hbm, ⟨13, _⟩ => ⟨S320x1, .f32⟩
  | .hbm, ⟨14, _⟩ => ⟨S_, .f32⟩
  | .hbm, ⟨15, _⟩ => ⟨S320x1, .f32⟩
  | .hbm, ⟨16, _⟩ => ⟨S320x1, .f32⟩
  | .hbm, ⟨17, _⟩ => ⟨S_, .f32⟩
  | .hbm, ⟨18, _⟩ => ⟨S320x1, .f32⟩
  | .hbm, ⟨19, _⟩ => ⟨S320x1, .f32⟩
  | .hbm, ⟨20, _⟩ => ⟨S2x1024x3, .f32⟩
  | .hbm, ⟨21, _⟩ => ⟨S2x3x1024, .bf16⟩
  | .hbm, ⟨22, _⟩ => ⟨S2x3x1024, .f32⟩
  | .hbm, ⟨23, _⟩ => ⟨S2x3x1024, .f32⟩
  | .hbm, ⟨24, _⟩ => ⟨S2x3x1024, .bf16⟩
  | .hbm, ⟨25, _⟩ => ⟨S2x20x32x1024, .f32⟩
  | .hbm, ⟨26, _⟩ => ⟨S2x640x1024, .f32⟩
  | .hbm, ⟨27, _⟩ => ⟨S2x640x1024, .bf16⟩
  | .hbm, ⟨28, _⟩ => ⟨S2x646x1024, .bf16⟩
  | .hbm, ⟨29, _⟩ => ⟨S64x32x16, .f32⟩
  | .hbm, ⟨30, _⟩ => ⟨S64x16x32, .f32⟩
  | .hbm, ⟨31, _⟩ => ⟨S64x512, .f32⟩
  | .hbm, ⟨32, _⟩ => ⟨S2x64x20x1024, .f32⟩
  | .hbm, ⟨33, _⟩ => ⟨S2x64x1024x20, .f32⟩
  | .local _ .vmem, ⟨0, _⟩ => ⟨S1x1024x3, .f32⟩
  | .local _ .vmem, ⟨1, _⟩ => ⟨S1x1024x3, .f32⟩
  | .local _ .vmem, ⟨2, _⟩ => ⟨S1x3x128, .f32⟩
  | .local _ .vmem, ⟨3, _⟩ => ⟨S1x3x128, .f32⟩
  | .local _ .vmem, ⟨4, _⟩ => ⟨S1x646x1024, .bf16⟩
  | .local _ .vmem, ⟨5, _⟩ => ⟨S1x646x1024, .bf16⟩
  | .local _ .vmem, ⟨6, _⟩ => ⟨S320x3, .f32⟩
  | .local _ .vmem, ⟨7, _⟩ => ⟨S320x1, .f32⟩
  | .local _ .vmem, ⟨8, _⟩ => ⟨S64x512, .f32⟩
  | .local _ .vmem, ⟨9, _⟩ => ⟨S1x64x20x128, .f32⟩
  | .local _ .vmem, ⟨10, _⟩ => ⟨S1x64x20x128, .f32⟩
  | _, _ => ⟨S2x3x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x646x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S320x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S320x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x64x20x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "inv_sigma" => some ((67108864 / 5368709 : ℝ) : EReal)
  | "taken" => some ⊤
  | "two_over_sigma" => some ((134217728 / 5368709 : ℝ) : EReal)
  | _ => none
-- ==== ReferenceIdeal.lean ====
abbrev S2x3x1024 : Shape := ⟨3, ![2, 3, 1024]⟩
abbrev S2x32x1024x20 : Shape := ⟨4, ![2, 32, 1024, 20]⟩
abbrev S20x3x3 : Shape := ⟨3, ![20, 3, 3]⟩
abbrev S16x3 : Shape := ⟨2, ![16, 3]⟩
abbrev S64x512 : Shape := ⟨2, ![64, 512]⟩
abbrev S2x3x1024x1 : Shape := ⟨4, ![2, 3, 1024, 1]⟩
abbrev S2x3x1x1024 : Shape := ⟨4, ![2, 3, 1, 1024]⟩
abbrev S2x3x1024x1024 : Shape := ⟨4, ![2, 3, 1024, 1024]⟩
abbrev S_ : Shape := ⟨0, ![]⟩
abbrev S2x1024x1024 : Shape := ⟨3, ![2, 1024, 1024]⟩
abbrev S2x1024x16 : Shape := ⟨3, ![2, 1024, 16]⟩
abbrev S2x1x1024x16 : Shape := ⟨4, ![2, 1, 1024, 16]⟩
abbrev S2x1024x16x1 : Shape := ⟨4, ![2, 1024, 16, 1]⟩
abbrev S1 : Shape := ⟨1, ![1]⟩
abbrev S1x1x1x1 : Shape := ⟨4, ![1, 1, 1, 1]⟩
abbrev S2x3x1024x16 : Shape := ⟨4, ![2, 3, 1024, 16]⟩
abbrev S3x16 : Shape := ⟨2, ![3, 16]⟩
abbrev S20x3x16 : Shape := ⟨3, ![20, 3, 16]⟩
abbrev S3x20x16 : Shape := ⟨3, ![3, 20, 16]⟩
abbrev S1x3x1x20x16x1 : Shape := ⟨6, ![1, 3, 1, 20, 16, 1]⟩
abbrev S2x3x1024x1x1x16 : Shape := ⟨6, ![2, 3, 1024, 1, 1, 16]⟩
abbrev S2x3x1024x20x16x16 : Shape := ⟨6, ![2, 3, 1024, 20, 16, 16]⟩
abbrev S2x1024x20x16x16 : Shape := ⟨5, ![2, 1024, 20, 16, 16]⟩
abbrev S2x32x1x1024x20 : Shape := ⟨5, ![2, 32, 1, 1024, 20]⟩
abbrev S2x1x1024x16x1 : Shape := ⟨5, ![2, 1, 1024, 16, 1]⟩
abbrev S2x32x1024x16x20 : Shape := ⟨5, ![2, 32, 1024, 16, 20]⟩
abbrev S2x1024x20x32x16 : Shape := ⟨5, ![2, 1024, 20, 32, 16]⟩
abbrev S2x32x16x1024x20 : Shape := ⟨5, ![2, 32, 16, 1024, 20]⟩
abbrev S2x512x20480 : Shape := ⟨3, ![2, 512, 20480]⟩
abbrev S2x20480x64 : Shape := ⟨3, ![2, 20480, 64]⟩
abbrev S2x64x20480 : Shape := ⟨3, ![2, 64, 20480]⟩
abbrev S2x64x1024x20 : Shape := ⟨4, ![2, 64, 1024, 20]⟩

abbrev nBuf : Space → Nat
  | .hbm => 97
  | .vmem => 0
  | .smem => 0
  | _ => 0

abbrev bufTy : (tb : Table) → Fin (tcTables nBuf tb) → BufTy
  | .hbm, ⟨0, _⟩ => ⟨S2x3x1024, .f32⟩
  | .hbm, ⟨1, _⟩ => ⟨S2x32x1024x20, .f32⟩
  | .hbm, ⟨2, _⟩ => ⟨S20x3x3, .f32⟩
  | .hbm, ⟨3, _⟩ => ⟨S16x3, .f32⟩
  | .hbm, ⟨4, _⟩ => ⟨S64x512, .f32⟩
  | .hbm, ⟨5, _⟩ => ⟨S2x3x1024x1, .f32⟩
  | .hbm, ⟨6, _⟩ => ⟨S2x3x1x1024, .f32⟩
  | .hbm, ⟨7, _⟩ => ⟨S2x3x1024x1024, .f32⟩
  | .hbm, ⟨8, _⟩ => ⟨S2x3x1024x1024, .f32⟩
  | .hbm, ⟨9, _⟩ => ⟨S2x3x1024x1024, .f32⟩
  | .hbm, ⟨10, _⟩ => ⟨S2x3x1024x1024, .f32⟩
  | .hbm, ⟨11, _⟩ => ⟨S_, .f32⟩
  | .hbm, ⟨12, _⟩ => ⟨S2x1024x1024, .f32⟩
  | .hbm, ⟨13, _⟩ => ⟨S2x1024x1024, .f32⟩
  | .hbm, ⟨14, _⟩ => ⟨S2x1024x16, .f32⟩
  | .hbm, ⟨15, _⟩ => ⟨S2x1024x16, .i32⟩
  | .hbm, ⟨16, _⟩ => ⟨S2x3x1x1024, .f32⟩
  | .hbm, ⟨17, _⟩ => ⟨S2x1x1024x16, .i32⟩
  | .hbm, ⟨18, _⟩ => ⟨S_, .i32⟩
  | .hbm, ⟨19, _⟩ => ⟨S2x1x1024x16, .i32⟩
  | .hbm, ⟨20, _⟩ => ⟨S2x1x1024x16, .i1⟩
  | .hbm, ⟨21, _⟩ => ⟨S_, .i32⟩
  | .hbm, ⟨22, _⟩ => ⟨S2x1x1024x16, .i32⟩
  | .hbm, ⟨23, _⟩ => ⟨S2x1x1024x16, .i32⟩
  | .hbm, ⟨24, _⟩ => ⟨S2x1x1024x16, .i32⟩
  | .hbm, ⟨25, _⟩ => ⟨S2x1024x16x1, .i32⟩
  | .hbm, ⟨26, _⟩ => ⟨S2x3x1024, .f32⟩
  | .hbm, ⟨27, _⟩ => ⟨S1, .i32⟩
  | .hbm, ⟨28, _⟩ => ⟨S_, .i32⟩
  | .hbm, ⟨29, _⟩ => ⟨S2x1024x16x1, .i32⟩
  | .hbm, ⟨30, _⟩ => ⟨S2x1024x16x1, .i1⟩
  | .hbm, ⟨31, _⟩ => ⟨S1x1x1x1, .i32⟩
  | .hbm, ⟨32, _⟩ => ⟨S2x1024x16x1, .i32⟩
  | .hbm, ⟨33, _⟩ => ⟨S2x1024x16x1, .i1⟩
  | .hbm, ⟨34, _⟩ => ⟨S2x1024x16x1, .i1⟩
  | .hbm, ⟨35, _⟩ => ⟨S_, .i1⟩
  | .hbm, ⟨36, _⟩ => ⟨S2x1024x16, .i1⟩
  | .hbm, ⟨37, _⟩ => ⟨S2x3x1024x16, .f32⟩
  | .hbm, ⟨38, _⟩ => ⟨S2x3x1024x16, .i1⟩
  | .hbm, ⟨39, _⟩ => ⟨S_, .f32⟩
  | .hbm, ⟨40, _⟩ => ⟨S2x3x1024x16, .f32⟩
  | .hbm, ⟨41, _⟩ => ⟨S2x3x1024x16, .f32⟩
  | .hbm, ⟨42, _⟩ => ⟨S2x3x1024x1, .f32⟩
  | .hbm, ⟨43, _⟩ => ⟨S2x3x1024x16, .f32⟩
  | .hbm, ⟨44, _⟩ => ⟨S2x3x1024x16, .f32⟩
  | .hbm, ⟨45, _⟩ => ⟨S3x16, .f32⟩
  | .hbm, ⟨46, _⟩ => ⟨S20x3x16, .f32⟩
  | .hbm, ⟨47, _⟩ => ⟨S3x20x16, .f32⟩
  | .hbm, ⟨48, _⟩ => ⟨S1x3x1x20x16x1, .f32⟩
  | .hbm, ⟨49, _⟩ => ⟨S2x3x1024x1x1x16, .f32⟩
  | .hbm, ⟨50, _⟩ => ⟨S2x3x1024x20x16x16, .f32⟩
  | .hbm, ⟨51, _⟩ => ⟨S2x3x1024x20x16x16, .f32⟩
  | .hbm, ⟨52, _⟩ => ⟨S2x3x1024x20x16x16, .f32⟩
  | .hbm, ⟨53, _⟩ => ⟨S2x3x1024x20x16x16, .f32⟩
  | .hbm, ⟨54, _⟩ => ⟨S_, .f32⟩
  | .hbm, ⟨55, _⟩ => ⟨S2x1024x20x16x16, .f32⟩
  | .hbm, ⟨56, _⟩ => ⟨S_, .f32⟩
  | .hbm, ⟨57, _⟩ => ⟨S2x1024x20x16x16, .f32⟩
  | .hbm, ⟨58, _⟩ => ⟨S2x1024x20x16x16, .f32⟩
  | .hbm, ⟨59, _⟩ => ⟨S_, .f32⟩
  | .hbm, ⟨60, _⟩ => ⟨S2x1024x20x16x16, .f32⟩
  | .hbm, ⟨61, _⟩ => ⟨S2x1024x20x16x16, .f32⟩
  | .hbm, ⟨62, _⟩ => ⟨S_, .f32⟩
  | .hbm, ⟨63, _⟩ => ⟨S2x1024x20x16x16, .f32⟩
  | .hbm, ⟨64, _⟩ => ⟨S2x1024x20x16x16, .f32⟩
  | .hbm, ⟨65, _⟩ => ⟨S2x32x1x1024x20, .f32⟩
  | .hbm, ⟨66, _⟩ => ⟨S2x1x1024x16x1, .i32⟩
  | .hbm, ⟨67, _⟩ => ⟨S_, .i32⟩
  | .hbm, ⟨68, _⟩ => ⟨S2x1x1024x16x1, .i32⟩
  | .hbm, ⟨69, _⟩ => ⟨S2x1x1024x16x1, .i1⟩
  | .hbm, ⟨70, _⟩ => ⟨S_, .i32⟩
  | .hbm, ⟨71, _⟩ => ⟨S2x1x1024x16x1, .i32⟩
  | .hbm, ⟨72, _⟩ => ⟨S2x1x1024x16x1, .i32⟩
  | .hbm, ⟨73, _⟩ => ⟨S2x1x1024x16x1, .i32⟩
  | .hbm, ⟨74, _⟩ => ⟨S2x1024x16x1, .i32⟩
  | .hbm, ⟨75, _⟩ => ⟨S2x32x1024x20, .f32⟩
  | .hbm, ⟨76, _⟩ => ⟨S1, .i32⟩
  | .hbm, ⟨77, _⟩ => ⟨S_, .i32⟩
  | .hbm, ⟨78, _⟩ => ⟨S2x1024x16x1, .i32⟩
  | .hbm, ⟨79, _⟩ => ⟨S2x1024x16x1, .i1⟩
  | .hbm, ⟨80, _⟩ => ⟨S1x1x1x1, .i32⟩
  | .hbm, ⟨81, _⟩ => ⟨S2x1024x16x1, .i32⟩
  | .hbm, ⟨82, _⟩ => ⟨S2x1024x16x1, .i1⟩
  | .hbm, ⟨83, _⟩ => ⟨S2x1024x16x1, .i1⟩
  | .hbm, ⟨84, _⟩ => ⟨S_, .i1⟩
  | .hbm, ⟨85, _⟩ => ⟨S2x1024x16, .i1⟩
  | .hbm, ⟨86, _⟩ => ⟨S2x32x1024x16x20, .f32⟩
  | .hbm, ⟨87, _⟩ => ⟨S2x32x1024x16x20, .i1⟩
  | .hbm, ⟨88, _⟩ => ⟨S_, .f32⟩
  | .hbm, ⟨89, _⟩ => ⟨S2x32x1024x16x20, .f32⟩
  | .hbm, ⟨90, _⟩ => ⟨S2x32x1024x16x20, .f32⟩
  | .hbm, ⟨91, _⟩ => ⟨S2x1024x20x32x16, .f32⟩
  | .hbm, ⟨92, _⟩ => ⟨S2x32x16x1024x20, .f32⟩
  | .hbm, ⟨93, _⟩ => ⟨S2x512x20480, .f32⟩
  | .hbm, ⟨94, _⟩ => ⟨S2x20480x64, .f32⟩
  | .hbm, ⟨95, _⟩ => ⟨S2x64x20480, .f32⟩
  | .hbm, ⟨96, _⟩ => ⟨S2x64x1024x20, .f32⟩
  | _, _ => ⟨S2x3x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_values : Ref sig .tc := ⟨.hbm, 14, rfl⟩
abbrev main_indices : Ref sig .tc := ⟨.hbm, 15, rfl⟩
abbrev main_v8 : Ref sig .tc := ⟨.hbm, 16, rfl⟩
abbrev main_v9 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_c_1 : Ref sig .tc := ⟨.hbm, 27, rfl⟩
abbrev main_call0_c_2 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_c_3 : Ref sig .tc := ⟨.hbm, 35, rfl⟩
abbrev main_call0_v13 : Ref sig .tc := ⟨.hbm, 36, rfl⟩
abbrev main_call0_v14 : Ref sig .tc := ⟨.hbm, 37, rfl⟩
abbrev main_call0_v15 : Ref sig .tc := ⟨.hbm, 38, rfl⟩
abbrev main_call0_cst : Ref sig .tc := ⟨.hbm, 39, rfl⟩
abbrev main_call0_v16 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst_0 : Ref sig .tc := ⟨.hbm, 54, rfl⟩
abbrev main_v23 : Ref sig .tc := ⟨.hbm, 55, rfl⟩
abbrev main_cst_1 : Ref sig .tc := ⟨.hbm, 56, rfl⟩
abbrev main_v24 : Ref sig .tc := ⟨.hbm, 57, rfl⟩
abbrev main_v25 : Ref sig .tc := ⟨.hbm, 58, rfl⟩
abbrev main_cst_2 : Ref sig .tc := ⟨.hbm, 59, rfl⟩
abbrev main_v26 : Ref sig .tc := ⟨.hbm, 60, rfl⟩
abbrev main_v27 : Ref sig .tc := ⟨.hbm, 61, rfl⟩
abbrev main_call1_cst : Ref sig .tc := ⟨.hbm, 62, rfl⟩
abbrev main_call1_v0 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_c_1 : Ref sig .tc := ⟨.hbm, 76, rfl⟩
abbrev main_call2_c_2 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_v12 : Ref sig .tc := ⟨.hbm, 83, rfl⟩
abbrev main_call2_c_3 : Ref sig .tc := ⟨.hbm, 84, rfl⟩
abbrev main_call2_v13 : Ref sig .tc := ⟨.hbm, 85, rfl⟩
abbrev main_call2_v14 : Ref sig .tc := ⟨.hbm, 86, rfl⟩
abbrev main_call2_v15 : Ref sig .tc := ⟨.hbm, 87, rfl⟩
abbrev main_call2_cst : Ref sig .tc := ⟨.hbm, 88, rfl⟩
abbrev main_call2_v16 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩

abbrev nD : Nat := 1
abbrev τ : Topo := Topo.v7x

variable {F : FTy → Type} [FloatOps F]
-- ==== Proof.BlockOps.lean ====
/- The kernel's block computation, restated by a few vector operations: one selection round, the sixteen rounds in a
   row, the gather, the weights, and one store per anchor. Each generated value of the body is one of these. -/
module

public import proofs.«01_k».proof.Proof.Gen.KernelIdeal.Frame

@[expose] public section

set_option maxRecDepth 16384

noncomputable section

namespace Cert.Proof.BlockOps

open Idealize.ShloMosaic Cert.KernelIdeal Cert.KernelIdeal.Gen

variable {F : FTy → Type} [FloatOps F] [Named F]

/-- The row number of every entry. -/
def rowNo : IVec S1024x128 32 := iota .tc S1024x128 32 [0] iota_S1024x128_d0_w32

/-- The least entry of every column. -/
def colMin (e : FVec F S1024x128 .f32) : FVec F S1x128 .f32 :=
  shapeCast S1x128 (multiReduction .minimumf [0] S128 e 0x7F800000#32 reduces_S1024x128_S128 (.inl rfl) rfl)
    shapeCasts_S128_S1x128

/-- The lowest row of every column that holds the column's least entry. -/
def lowest (e : FVec F S1024x128 .f32) : IVec S1x128 32 :=
  shapeCast S1x128 (multiReductionI .minsi [0] S128
    (select (cmpf .oeq e (broadcastTo S1024x128 (colMin e) broadcasts_S1x128_S1024x128)) rowNo
      (broadcast S1024x128 1024#32)) 2147483647#32 reduces_S1024x128_S128 rfl) shapeCasts_S128_S1x128

/-- Whether an entry is in its column's lowest row. -/
def hit (e : FVec F S1024x128 .f32) : IVec S1024x128 1 :=
  cmpi .eq rowNo (broadcastTo S1024x128 (lowest e) broadcasts_S1x128_S1024x128)

/-- One round: the lowest least entry of every column overwritten. -/
def next (e : FVec F S1024x128 .f32) : FVec F S1024x128 .f32 :=
  select (hit e) (broadcast S1024x128 (Named.named κ "taken" 0x7F61B1E6#32)) e

/-- One at every column's lowest least entry, zero elsewhere. -/
def onehot (e : FVec F S1024x128 .f32) : FVec F S1024x128 .bf16 :=
  truncf .bf16 (select (hit e) (broadcast S1024x128 (Scalar.ofBits .f32 0x3F800000#32))
    (broadcast S1024x128 (Scalar.ofBits .f32 0x00000000#32))) bitsLt_bf16_f32

/-- The distances after `n` rounds. -/
def after (e : FVec F S1024x128 .f32) : Nat → FVec F S1024x128 .f32
  | 0 => e
  | n + 1 => next (after e n)

/-- The sixteen selections side by side. -/
def onehots (e : FVec F S1024x128 .f32) : FVec F S1024x2048 .bf16 :=
  concatenate S1024x2048 1 [⟨S1024x128, onehot (after e 0)⟩, ⟨S1024x128, onehot (after e 1)⟩,
    ⟨S1024x128, onehot (after e 2)⟩, ⟨S1024x128, onehot (after e 3)⟩, ⟨S1024x128, onehot (after e 4)⟩,
    ⟨S1024x128, onehot (after e 5)⟩, ⟨S1024x128, onehot (after e 6)⟩, ⟨S1024x128, onehot (after e 7)⟩,
    ⟨S1024x128, onehot (after e 8)⟩, ⟨S1024x128, onehot (after e 9)⟩, ⟨S1024x128, onehot (after e 10)⟩,
    ⟨S1024x128, onehot (after e 11)⟩, ⟨S1024x128, onehot (after e 12)⟩, ⟨S1024x128, onehot (after e 13)⟩,
    ⟨S1024x128, onehot (after e 14)⟩, ⟨S1024x128, onehot (after e 15)⟩]
    concatenates_S1024x128_S1024x128_S1024x128_S1024x128_S1024x128_S1024x128_S1024x128_S1024x128_S1024x128_S1024x128_S1024x128_S1024x128_S1024x128_S1024x128_S1024x128_S1024x128_S1024x2048_d1

/-- The sixteen least distances side by side. -/
def mins (e : FVec F S1024x128 .f32) : FVec F S1x2048 .f32 :=
  concatenate S1x2048 1 [⟨S1x128, colMin (after e 0)⟩, ⟨S1x128, colMin (after e 1)⟩,
    ⟨S1x128, colMin (after e 2)⟩, ⟨S1x128, colMin (after e 3)⟩, ⟨S1x128, colMin (after e 4)⟩,
    ⟨S1x128, colMin (after e 5)⟩, ⟨S1x128, colMin (after e 6)⟩, ⟨S1x128, colMin (after e 7)⟩,
    ⟨S1x128, colMin (after e 8)⟩, ⟨S1x128, colMin (after e 9)⟩, ⟨S1x128, colMin (after e 10)⟩,
    ⟨S1x128, colMin (after e 11)⟩, ⟨S1x128, colMin (after e 12)⟩, ⟨S1x128, colMin (after e 13)⟩,
    ⟨S1x128, colMin (after e 14)⟩, ⟨S1x128, colMin (after e 15)⟩]
    concatenates_S1x128_S1x128_S1x128_S1x128_S1x128_S1x128_S1x128_S1x128_S1x128_S1x128_S1x128_S1x128_S1x128_S1x128_S1x128_S1x128_S1x2048_d1

/-- The rows of the operand at the neighbours selected. -/
def gathered (fx : FVec F S646x1024 .bf16) (e : FVec F S1024x128 .f32) : FVec F S646x2048 .f32 :=
  matmul dot_S646x1024_S1024x2048_S646x2048_1_0_0_1_n_n none fx (onehots e) (constant S646x2048 .f32 0x00000000#32)

/-- The neighbours' offsets from the queries: the two parts of the gathered coordinates less the query's own. -/
def offsets (xt : FVec F S3x128 .f32) (g : FVec F S646x2048 .f32) : FVec F S3x2048 .f32 :=
  subf (addf (extractStridedSlice S3x2048 ![640, 0] g slices_S646x2048_o640_0_S3x2048)
      (extractStridedSlice S3x2048 ![643, 0] g slices_S646x2048_o643_0_S3x2048))
    (concatenate S3x2048 1 [⟨S3x128, xt⟩, ⟨S3x128, xt⟩, ⟨S3x128, xt⟩, ⟨S3x128, xt⟩, ⟨S3x128, xt⟩, ⟨S3x128, xt⟩,
      ⟨S3x128, xt⟩, ⟨S3x128, xt⟩, ⟨S3x128, xt⟩, ⟨S3x128, xt⟩, ⟨S3x128, xt⟩, ⟨S3x128, xt⟩, ⟨S3x128, xt⟩, ⟨S3x128, xt⟩,
      ⟨S3x128, xt⟩, ⟨S3x128, xt⟩]
      concatenates_S3x128_S3x128_S3x128_S3x128_S3x128_S3x128_S3x128_S3x128_S3x128_S3x128_S3x128_S3x128_S3x128_S3x128_S3x128_S3x128_S3x2048_d1)

/-- The products of the kernel points with the offsets, summed over the three coordinates. -/
def cross (rk : FVec F S320x3 .f32) (o : FVec F S3x2048 .f32) : FVec F S320x2048 .f32 :=
  addf (addf
    (mulf (broadcastTo S320x2048 (extractStridedSlice S320x1 ![0, 0] rk slices_S320x3_o0_0_S320x1) broadcasts_S320x1_S320x2048)
      (broadcastTo S320x2048 (extractStridedSlice S1x2048 ![0, 0] o slices_S3x2048_o0_0_S1x2048) broadcasts_S1x2048_S320x2048))
    (mulf (broadcastTo S320x2048 (extractStridedSlice S320x1 ![0, 1] rk slices_S320x3_o0_1_S320x1) broadcasts_S320x1_S320x2048)
      (broadcastTo S320x2048 (extractStridedSlice S1x2048 ![1, 0] o slices_S3x2048_o1_0_S1x2048) broadcasts_S1x2048_S320x2048)))
    (mulf (broadcastTo S320x2048 (extractStridedSlice S320x1 ![0, 2] rk slices_S320x3_o0_2_S320x1) broadcasts_S320x1_S320x2048)
      (broadcastTo S320x2048 (extractStridedSlice S1x2048 ![2, 0] o slices_S3x2048_o2_0_S1x2048) broadcasts_S1x2048_S320x2048))

/-- The weights, from the least distances, the constant parts and the products. -/
def weights (cka : FVec F S320x1 .f32) (ms : FVec F S1x2048 .f32) (x : FVec F S320x2048 .f32) : FVec F S320x2048 .f32 :=
  maximumf (addf (subf (broadcastTo S320x2048 cka broadcasts_S320x1_S320x2048)
      (broadcastTo S320x2048 (mulf ms (broadcast S1x2048 (Named.named κ "inv_sigma" 0x41480000#32)))
        broadcasts_S1x2048_S320x2048)) x)
    (broadcast S320x2048 (Scalar.ofBits .f32 0x00000000#32))

/-- An anchor's rows of the gathered features. -/
def featRows (g : FVec F S646x2048 .f32) (a : Nat) (h : S646x2048.Slices ![32 * a, 0] S32x2048) : FVec F S32x2048 .f32 :=
  extractStridedSlice S32x2048 ![32 * a, 0] g h

/-- An anchor's rows of the weights. -/
def weightRows (w : FVec F S320x2048 .f32) (a : Nat) (h : S320x2048.Slices ![16 * a, 0] S16x2048) : FVec F S16x2048 .f32 :=
  extractStridedSlice S16x2048 ![16 * a, 0] w h

/-- One neighbour's products of weights and features. -/
def product (fa : FVec F S32x2048 .f32) (wa : FVec F S16x2048 .f32) (n : Nat)
    (hf : S32x2048.Slices ![0, 128 * n] S32x128) (hw : S16x2048.Slices ![0, 128 * n] S16x128) : FVec F S16x32x128 .f32 :=
  mulf (broadcastTo S16x32x128 (shapeCast S16x1x128 (extractStridedSlice S16x128 ![0, 128 * n] wa hw)
      shapeCasts_S16x128_S16x1x128) broadcasts_S16x1x128_S16x32x128)
    (broadcastTo S16x32x128 (shapeCast S1x32x128 (extractStridedSlice S32x128 ![0, 128 * n] fa hf)
      shapeCasts_S32x128_S1x32x128) broadcasts_S1x32x128_S16x32x128)

theorem feat_slices (n : Nat) (h : n < 16) : S32x2048.Slices ![0, 128 * n] S32x128 := by
  refine ⟨rfl, fun a => ?_⟩
  fin_cases a
  · exact Nat.le_refl 32
  · show 128 * n + 128 ≤ 2048
    omega

theorem weight_slices (n : Nat) (h : n < 16) : S16x2048.Slices ![0, 128 * n] S16x128 := by
  refine ⟨rfl, fun a => ?_⟩
  fin_cases a
  · exact Nat.le_refl 16
  · show 128 * n + 128 ≤ 2048
    omega

/-- The products of the neighbours up to the `n`-th, added one after another. -/
def summed (fa : FVec F S32x2048 .f32) (wa : FVec F S16x2048 .f32) : (n : Nat) → n < 16 → FVec F S16x32x128 .f32
  | 0, h => product fa wa 0 (feat_slices 0 h) (weight_slices 0 h)
  | n + 1, h => addf (summed fa wa n (Nat.lt_of_succ_lt h))
      (product fa wa (n + 1) (feat_slices (n + 1) h) (weight_slices (n + 1) h))

theorem featRows_slices (a : Fin 20) : S646x2048.Slices ![32 * a.val, 0] S32x2048 := by
  refine ⟨rfl, fun i => ?_⟩
  fin_cases i
  · show 32 * a.val + 32 ≤ 646
    omega
  · exact Nat.le_refl 2048

theorem weightRows_slices (a : Fin 20) : S320x2048.Slices ![16 * a.val, 0] S16x2048 := by
  refine ⟨rfl, fun i => ?_⟩
  fin_cases i
  · show 16 * a.val + 16 ≤ 320
    omega
  · exact Nat.le_refl 2048

/-- What is stored for one anchor: the output weights times the summed products. -/
def stored (w2 : FVec F S64x512 .f32) (g : FVec F S646x2048 .f32) (w : FVec F S320x2048 .f32) (a : Fin 20) :
    FVec F S1x64x1x128 .f32 :=
  shapeCast S1x64x1x128 (matmul dot_S64x512_S512x128_S64x128_1_0_0_1_n_n none w2
    (shapeCast S512x128 (summed (featRows g a.val (featRows_slices a)) (weightRows w a.val (weightRows_slices a)) 15
      (by decide)) shapeCasts_S16x32x128_S512x128)
    (constant S64x128 .f32 0x00000000#32)) shapeCasts_S64x128_S1x64x1x128

variable (x0 : Vec F S1x1024x3 .f32) (x1 : Vec F S1x3x128 .f32) (x2 : Vec F S1x646x1024 .bf16)
  (x3 : Vec F S320x3 .f32) (x4 : Vec F S320x1 .f32) (x5 : Vec F S64x512 .f32)

/-- The distances of a block: every point against every query. -/
def dists : FVec F S1024x128 .f32 := k0_pay257 x0 x1 x2 x3 x4 x5

/-- A block's gathered features and coordinates. -/
def feats : FVec F S646x2048 .f32 := gathered (k0_pay253 x0 x1 x2 x3 x4 x5) (dists x0 x1 x2 x3 x4 x5)

/-- A block's weights. -/
def wts : FVec F S320x2048 .f32 :=
  weights (k0_pay255 x0 x1 x2 x3 x4 x5) (mins (dists x0 x1 x2 x3 x4 x5))
    (cross (k0_pay254 x0 x1 x2 x3 x4 x5) (offsets (k0_pay252 x0 x1 x2 x3 x4 x5) (feats x0 x1 x2 x3 x4 x5)))

/-- The features gathered, as the body names them. -/
theorem pay302_eq : k0_pay302 x0 x1 x2 x3 x4 x5 = feats x0 x1 x2 x3 x4 x5 := rfl

/-- The weights, as the body names them. -/
theorem pay303_eq : k0_pay303 x0 x1 x2 x3 x4 x5 = wts x0 x1 x2 x3 x4 x5 := rfl

/-- The block the body leaves: one store per anchor. -/
theorem out_eq : out0_6 x0 x1 x2 x3 x4 x5 = View.canon [
    ⟨r0_25, stored (k0_pay256 x0 x1 x2 x3 x4 x5) (feats x0 x1 x2 x3 x4 x5) (wts x0 x1 x2 x3 x4 x5) 19⟩,
    ⟨r0_24, stored (k0_pay256 x0 x1 x2 x3 x4 x5) (feats x0 x1 x2 x3 x4 x5) (wts x0 x1 x2 x3 x4 x5) 18⟩,
    ⟨r0_23, stored (k0_pay256 x0 x1 x2 x3 x4 x5) (feats x0 x1 x2 x3 x4 x5) (wts x0 x1 x2 x3 x4 x5) 17⟩,
    ⟨r0_22, stored (k0_pay256 x0 x1 x2 x3 x4 x5) (feats x0 x1 x2 x3 x4 x5) (wts x0 x1 x2 x3 x4 x5) 16⟩,
    ⟨r0_21, stored (k0_pay256 x0 x1 x2 x3 x4 x5) (feats x0 x1 x2 x3 x4 x5) (wts x0 x1 x2 x3 x4 x5) 15⟩,
    ⟨r0_20, stored (k0_pay256 x0 x1 x2 x3 x4 x5) (feats x0 x1 x2 x3 x4 x5) (wts x0 x1 x2 x3 x4 x5) 14⟩,
    ⟨r0_19, stored (k0_pay256 x0 x1 x2 x3 x4 x5) (feats x0 x1 x2 x3 x4 x5) (wts x0 x1 x2 x3 x4 x5) 13⟩,
    ⟨r0_18, stored (k0_pay256 x0 x1 x2 x3 x4 x5) (feats x0 x1 x2 x3 x4 x5) (wts x0 x1 x2 x3 x4 x5) 12⟩,
    ⟨r0_17, stored (k0_pay256 x0 x1 x2 x3 x4 x5) (feats x0 x1 x2 x3 x4 x5) (wts x0 x1 x2 x3 x4 x5) 11⟩,
    ⟨r0_16, stored (k0_pay256 x0 x1 x2 x3 x4 x5) (feats x0 x1 x2 x3 x4 x5) (wts x0 x1 x2 x3 x4 x5) 10⟩,
    ⟨r0_15, stored (k0_pay256 x0 x1 x2 x3 x4 x5) (feats x0 x1 x2 x3 x4 x5) (wts x0 x1 x2 x3 x4 x5) 9⟩,
    ⟨r0_14, stored (k0_pay256 x0 x1 x2 x3 x4 x5) (feats x0 x1 x2 x3 x4 x5) (wts x0 x1 x2 x3 x4 x5) 8⟩,
    ⟨r0_13, stored (k0_pay256 x0 x1 x2 x3 x4 x5) (feats x0 x1 x2 x3 x4 x5) (wts x0 x1 x2 x3 x4 x5) 7⟩,
    ⟨r0_12, stored (k0_pay256 x0 x1 x2 x3 x4 x5) (feats x0 x1 x2 x3 x4 x5) (wts x0 x1 x2 x3 x4 x5) 6⟩,
    ⟨r0_11, stored (k0_pay256 x0 x1 x2 x3 x4 x5) (feats x0 x1 x2 x3 x4 x5) (wts x0 x1 x2 x3 x4 x5) 5⟩,
    ⟨r0_10, stored (k0_pay256 x0 x1 x2 x3 x4 x5) (feats x0 x1 x2 x3 x4 x5) (wts x0 x1 x2 x3 x4 x5) 4⟩,
    ⟨r0_9, stored (k0_pay256 x0 x1 x2 x3 x4 x5) (feats x0 x1 x2 x3 x4 x5) (wts x0 x1 x2 x3 x4 x5) 3⟩,
    ⟨r0_8, stored (k0_pay256 x0 x1 x2 x3 x4 x5) (feats x0 x1 x2 x3 x4 x5) (wts x0 x1 x2 x3 x4 x5) 2⟩,
    ⟨r0_7, stored (k0_pay256 x0 x1 x2 x3 x4 x5) (feats x0 x1 x2 x3 x4 x5) (wts x0 x1 x2 x3 x4 x5) 1⟩,
    ⟨r0_6, stored (k0_pay256 x0 x1 x2 x3 x4 x5) (feats x0 x1 x2 x3 x4 x5) (wts x0 x1 x2 x3 x4 x5) 0⟩] := rfl

end Cert.Proof.BlockOps

end
-- ==== Proof.Rounds.lean ====
/- Selecting the smallest entries of a finite family one at a time — take the least, at its lowest position, then write
   plus infinity over it — against the stable sort of the family. -/
module

public import Idealize.ShloMosaic.Lib.SortPrefix
public import Idealize.ShloMosaic.Lib.SortFacts
public import Mathlib.Data.EReal.Basic
public import Mathlib.Data.EReal.Operations

@[expose] public section

noncomputable section

namespace Cert.Proof.Rounds

open Idealize.ShloMosaic

variable {n : Nat} (d : Fin n → EReal)

/-- "The entry at `p` is less than the entry at `p'`". -/
def less (p p' : Fin n) : Bool := decide (d p < d p')

/-- The order by entry, then by position. -/
def lessPos (p p' : Fin n) : Bool := decide (d p < d p') || (decide (d p = d p') && decide (p < p'))

/-- The position the stable sort puts at place `i`. -/
def pick (i : Fin n) : Fin n := sortedFrom (less d) i

/-- The order by entry, then by position, is a strict total order. -/
theorem lessPos_total : StrictTotalBefore (lessPos d) := by
  classical
  exact StrictTotalBefore.of_key_then_position (fun a b => decide (a < b)) d (fun a => by simp)
    (fun a b c hab hbc => by simp at *; exact hab.trans hbc)
    (fun a b => by simp only [decide_eq_true_eq]; exact lt_trichotomy a b)

/-- The stable sort of an ascending list of positions by the entries orders it by entry, then by position. -/
theorem stableSort_less (l : List (Fin n)) (hl : l.Pairwise (· < ·)) :
    stableSort (less d) l = stableSort (lessPos d) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [less, lessPos, hab.le]

/-- The sorted positions, by entry then by position. -/
theorem pick_eq (i : Fin n) : pick d i = sortedFrom (lessPos d) i := by
  have h : sortPositions n (less d) = sortPositions n (lessPos d) :=
    stableSort_less d _ (List.pairwise_lt_finRange n)
  unfold pick sortedFrom
  rw [List.get_of_eq h]
  rfl

/-- No position is picked twice. -/
theorem pick_injective : Function.Injective (pick d) := sortedFrom_injective _

/-- Every position is picked at some place. -/
theorem pick_surjective : Function.Surjective (pick d) := sortedFrom_surjective _

/-- A later pick is not before an earlier one. -/
theorem pick_sorted {i j : Fin n} (hij : i < j) : lessPos d (pick d j) (pick d i) = false := by
  rw [pick_eq, pick_eq]
  exact sortedFrom_noInversion (lessPos d) (lessPos d) (fun a b h => (lessPos_total d).asymm a b h) (fun _ _ h => h)
    (fun a b c => (lessPos_total d).negTrans a b c) i j hij

/-- The entries picked ascend. -/
theorem pick_le {i j : Fin n} (hij : i ≤ j) : d (pick d i) ≤ d (pick d j) := by
  rcases hij.eq_or_lt with h | h
  · rw [h]
  · have := pick_sorted d h
    simp only [lessPos, Bool.or_eq_false_iff, decide_eq_false_iff_not, not_lt] at this
    exact this.1

/-- Of two equal entries the one at the lower position is picked first. -/
theorem pick_tie {i j : Fin n} (hij : i ≤ j) (he : d (pick d j) = d (pick d i)) : pick d i ≤ pick d j := by
  rcases hij.eq_or_lt with h | h
  · rw [h]
  · have := pick_sorted d h
    simp only [lessPos, he, decide_true, Bool.true_and, Bool.or_eq_false_iff, decide_eq_false_iff_not, not_lt] at this
    exact this.2

/-- The family with plus infinity over the first `i` picks. -/
def rest (i : Nat) (p : Fin n) : EReal := open Classical in if ∃ j : Fin n, j.val < i ∧ pick d j = p then ⊤ else d p

/-- Before the first pick the family is as it was. -/
theorem rest_zero : rest d 0 = d := by
  funext p
  simp [rest]

/-- What is left is nowhere less than the next pick's entry. -/
theorem le_rest (i : Fin n) (p : Fin n) : d (pick d i) ≤ rest d i.val p := by
  unfold rest
  split
  · exact le_top
  · rename_i h
    obtain ⟨j, rfl⟩ := pick_surjective d p
    exact pick_le d (not_lt.mp fun hji => h ⟨j, hji, rfl⟩)

/-- The next pick's entry is still there. -/
theorem rest_pick (i : Fin n) : rest d i.val (pick d i) = d (pick d i) := by
  unfold rest
  rw [if_neg]
  rintro ⟨j, hj, he⟩
  exact absurd (congrArg Fin.val (pick_injective d he)) (Nat.ne_of_lt hj)

/-- Where what is left has the next pick's entry, and that is finite, the position is not lower than the pick's. -/
theorem pick_le_of_rest_eq (i p : Fin n) (hlt : d (pick d i) < ⊤) (he : rest d i.val p = d (pick d i)) :
    pick d i ≤ p := by
  unfold rest at he
  split at he
  · exact absurd he.symm hlt.ne
  · rename_i h
    obtain ⟨j, rfl⟩ := pick_surjective d p
    exact pick_tie d (not_lt.mp fun hji => h ⟨j, hji, rfl⟩) he

/-- One more pick writes plus infinity over one more position. -/
theorem rest_succ (i p : Fin n) : rest d (i.val + 1) p = if p = pick d i then ⊤ else rest d i.val p := by
  unfold rest
  by_cases hp : p = pick d i
  · rw [if_pos hp, if_pos ⟨i, Nat.lt_succ_self _, hp.symm⟩]
  · rw [if_neg hp]
    refine if_congr ⟨?_, ?_⟩ rfl rfl
    · rintro ⟨j, hj, he⟩
      rcases Nat.lt_succ_iff_lt_or_eq.mp hj with h | h
      · exact ⟨j, h, he⟩
      · exact absurd (by rw [← he, Fin.ext h]) hp
    · rintro ⟨j, hj, he⟩
      exact ⟨j, Nat.lt_succ_of_lt hj, he⟩

/-- Once the next pick's entry is plus infinity, all that is left is. -/
theorem rest_eq_top (i p : Fin n) (h : d (pick d i) = ⊤) : rest d i.val p = ⊤ :=
  top_le_iff.mp (h ▸ le_rest d i p)

/-- One round: a position `a` that is the lowest holding the least entry of what is left. Writing plus infinity over it
    leaves what is left after one more pick. -/
theorem round_next (i : Fin n) (a : Nat)
    (ha : d (pick d i) < ⊤ → a = (pick d i).val) (p : Fin n) :
    (if p.val = a then ⊤ else rest d i.val p) = rest d (i.val + 1) p := by
  rw [rest_succ]
  by_cases ht : d (pick d i) < ⊤
  · rw [ha ht]
    exact if_congr Fin.ext_iff.symm rfl rfl
  · have htop : d (pick d i) = ⊤ := not_lt_top_iff.mp ht
    rw [rest_eq_top d i p htop]
    simp

end Cert.Proof.Rounds

end
-- ==== Proof.Weight.lean ====
/- The weight of one neighbour at one kernel point, as the kernel expands the squared distance and as the reference
   states it, over the extended reals. -/
module

public import Mathlib.Data.EReal.Basic
public import Mathlib.Data.EReal.Operations
public import Mathlib.Data.EReal.Inv
public import Mathlib.Tactic.Ring
public import Mathlib.Tactic.Linarith

@[expose] public section

noncomputable section

namespace Cert.Proof.Weight

/-- A square is not negative. -/
theorem sq_nonneg (x : EReal) : 0 ≤ x * x := by
  induction x with
  | bot => simp
  | top => simp
  | coe x => rw [← EReal.coe_mul]; exact_mod_cast mul_self_nonneg x

/-- A square is plus infinity exactly where its root is infinite. -/
theorem sq_eq_top {x : EReal} : x * x = ⊤ ↔ x = ⊤ ∨ x = ⊥ := by
  induction x with
  | bot => simp
  | top => simp
  | coe x =>
    rw [← EReal.coe_mul]
    exact ⟨fun h => absurd h (EReal.coe_ne_top _), fun h => by simp at h⟩

/-- The square of a difference does not depend on the order of its terms. -/
theorem sq_sub_comm (x y : EReal) : (x - y) * (x - y) = (y - x) * (y - x) := by
  induction x with
  | bot => induction y with
    | bot => rfl
    | top => simp
    | coe y => simp
  | top => induction y with
    | bot => simp
    | top => rfl
    | coe y => simp
  | coe x => induction y with
    | bot => simp
    | top => simp
    | coe y =>
      rw [← EReal.coe_sub, ← EReal.coe_sub, ← EReal.coe_mul, ← EReal.coe_mul]
      norm_cast; ring

/-- A sum of two terms that are not negative is plus infinity exactly where one of them is. -/
theorem add_eq_top {x y : EReal} (hx : 0 ≤ x) (hy : 0 ≤ y) : x + y = ⊤ ↔ x = ⊤ ∨ y = ⊤ := by
  induction x with
  | bot => simp at hx
  | top => simp [EReal.top_add_of_ne_bot (ne_bot_of_le_ne_bot (by simp) hy)]
  | coe x => induction y with
    | bot => simp at hy
    | top => simp
    | coe y =>
      rw [← EReal.coe_add]
      exact ⟨fun h => absurd h (EReal.coe_ne_top _), fun h => by simp at h⟩

/-- A sum of three squares is plus infinity exactly where one of the roots is infinite. -/
theorem sumSq_eq_top {x y z : EReal} :
    x * x + y * y + z * z = ⊤ ↔ (x = ⊤ ∨ x = ⊥) ∨ (y = ⊤ ∨ y = ⊥) ∨ (z = ⊤ ∨ z = ⊥) := by
  rw [add_eq_top (add_nonneg (sq_nonneg x) (sq_nonneg y)) (sq_nonneg z), add_eq_top (sq_nonneg x) (sq_nonneg y),
    sq_eq_top, sq_eq_top, sq_eq_top, or_assoc]

/-- An infinite number less anything is infinite. -/
theorem sub_infinite {x : EReal} (y : EReal) (h : x = ⊤ ∨ x = ⊥) : x - y = ⊤ ∨ x - y = ⊥ := by
  rcases h with rfl | rfl
  · induction y with
    | bot => simp
    | top => right; rfl
    | coe y => simp
  · right; exact EReal.bot_sub y

/-- A real number less an infinite one is infinite. -/
theorem real_sub_infinite (x : ℝ) {y : EReal} (h : y = ⊤ ∨ y = ⊥) : (x : EReal) - y = ⊤ ∨ (x : EReal) - y = ⊥ := by
  rcases h with rfl | rfl <;> simp

/-- An extended real that is not infinite is a real number. -/
theorem eq_coe {x : EReal} (h : ¬(x = ⊤ ∨ x = ⊥)) : ∃ r : ℝ, x = r := by
  induction x with
  | bot => simp at h
  | top => simp at h
  | coe x => exact ⟨x, rfl⟩

variable {i t : ℝ}

/-- Where the squared distance is plus infinity the weight is zero. -/
theorem relu_of_top (hi : 0 < i) {x : EReal} (hx : x = ⊤) : max (1 - x * (i : EReal)) 0 = 0 := by
  rw [hx, EReal.top_mul_coe_of_pos hi, EReal.sub_top]; simp

/-- The kernel's expanded weight is the reference's: with `g` the neighbour's offset, `r` the kernel point and `k` the
    offset the kernel multiplies by, which is `g` wherever `g` is finite; `i` the reciprocal of sigma, `t` twice it. -/
theorem weight_eq (hi : 0 < i) (ht : t = 2 * i) (g0 g1 g2 r0 r1 r2 k0 k1 k2 : EReal)
    (hk : g0 * g0 + g1 * g1 + g2 * g2 < ⊤ → k0 = g0 ∧ k1 = g1 ∧ k2 = g2) :
    max (((1 - (r0 * r0 + r1 * r1 + r2 * r2) * (i : EReal)) - (g0 * g0 + g1 * g1 + g2 * g2) * (i : EReal))
      + (r0 * (t : EReal) * k0 + r1 * (t : EReal) * k1 + r2 * (t : EReal) * k2)) 0
    = max (1 - ((g0 - r0) * (g0 - r0) + (g1 - r1) * (g1 - r1) + (g2 - r2) * (g2 - r2)) * (i : EReal)) 0 := by
  by_cases hg : g0 * g0 + g1 * g1 + g2 * g2 = ⊤
  · rw [relu_of_top hi (sumSq_eq_top.mpr ?_)]
    · rw [hg, EReal.top_mul_coe_of_pos hi, EReal.sub_top, EReal.bot_add]; simp
    · rcases sumSq_eq_top.mp hg with h | h | h
      · exact .inl (sub_infinite r0 h)
      · exact .inr (.inl (sub_infinite r1 h))
      · exact .inr (.inr (sub_infinite r2 h))
  · obtain ⟨rfl, rfl, rfl⟩ := hk (lt_top_iff_ne_top.mpr hg)
    obtain ⟨hg0, hg'⟩ := not_or.mp fun h => hg (sumSq_eq_top.mpr h)
    obtain ⟨hg1, hg2⟩ := not_or.mp hg'
    obtain ⟨g0, rfl⟩ := eq_coe hg0
    obtain ⟨g1, rfl⟩ := eq_coe hg1
    obtain ⟨g2, rfl⟩ := eq_coe hg2
    by_cases hr : r0 * r0 + r1 * r1 + r2 * r2 = ⊤
    · rw [relu_of_top hi (sumSq_eq_top.mpr ?_)]
      · rw [hr, EReal.top_mul_coe_of_pos hi, EReal.sub_top, EReal.bot_sub, EReal.bot_add]; simp
      · rcases sumSq_eq_top.mp hr with h | h | h
        · exact .inl (real_sub_infinite g0 h)
        · exact .inr (.inl (real_sub_infinite g1 h))
        · exact .inr (.inr (real_sub_infinite g2 h))
    · obtain ⟨hr0, hr'⟩ := not_or.mp fun h => hr (sumSq_eq_top.mpr h)
      obtain ⟨hr1, hr2⟩ := not_or.mp hr'
      obtain ⟨r0, rfl⟩ := eq_coe hr0
      obtain ⟨r1, rfl⟩ := eq_coe hr1
      obtain ⟨r2, rfl⟩ := eq_coe hr2
      congr 1
      have h1 : (1 : EReal) = ((1 : ℝ) : EReal) := rfl
      rw [h1]
      norm_cast
      rw [ht]
      ring

end Cert.Proof.Weight

end
-- ==== Proof.Spec.lean ====
/- What the operation computes, over the extended reals: for one query, its sixteen nearest points, the weight of each
   at every kernel point, and the output weights applied to the weighted features. -/
module

public import proofs.«01_k».proof.Proof.Rounds
public import proofs.«01_k».proof.Proof.Weight
public import Mathlib.Algebra.BigOperators.Fin

@[expose] public section

noncomputable section

namespace Cert.Proof.Spec

open Cert.Proof.Rounds

/-- One over sigma, sigma the f32 number nearest 0.08. -/
def invSigma : ℝ := 67108864 / 5368709

/-- Two over sigma. -/
def twoOverSigma : ℝ := 134217728 / 5368709

theorem invSigma_pos : 0 < invSigma := by unfold invSigma; norm_num

theorem twoOverSigma_eq : twoOverSigma = 2 * invSigma := by unfold invSigma twoOverSigma; norm_num

/-- The squared distance of point `p` from query `q`. -/
def d2 (x : Fin 3 → Fin 1024 → EReal) (q p : Fin 1024) : EReal :=
  (x 0 p - x 0 q) * (x 0 p - x 0 q) + (x 1 p - x 1 q) * (x 1 p - x 1 q) + (x 2 p - x 2 q) * (x 2 p - x 2 q)

/-- The place of the `n`-th neighbour among all the points in order of distance. -/
def place (n : Fin 16) : Fin 1024 := n.castLE (by decide)

/-- The `n`-th nearest point, the lower position first where two are as near. -/
def nbr (x : Fin 3 → Fin 1024 → EReal) (q : Fin 1024) (n : Fin 16) : Fin 1024 := pick (d2 x q) (place n)

/-- The squared distance of the `n`-th neighbour's offset from the kernel point `r`. -/
def gap (x : Fin 3 → Fin 1024 → EReal) (r : Fin 3 → EReal) (q : Fin 1024) (n : Fin 16) : EReal :=
  ((x 0 (nbr x q n) - x 0 q) - r 0) * ((x 0 (nbr x q n) - x 0 q) - r 0)
    + ((x 1 (nbr x q n) - x 1 q) - r 1) * ((x 1 (nbr x q n) - x 1 q) - r 1)
    + ((x 2 (nbr x q n) - x 2 q) - r 2) * ((x 2 (nbr x q n) - x 2 q) - r 2)

/-- The weight of the `n`-th neighbour at the kernel point `r`. -/
def wt (x : Fin 3 → Fin 1024 → EReal) (r : Fin 3 → EReal) (q : Fin 1024) (n : Fin 16) : EReal :=
  max (1 - gap x r q n * (invSigma : EReal)) 0

/-- One output entry: the output weights `w` of every feature `c` and kernel point `k`, times the weighted sum of the
    neighbours' features. -/
def result (x : Fin 3 → Fin 1024 → EReal) (f : Fin 32 → Fin 1024 → EReal) (rk : Fin 16 → Fin 3 → EReal)
    (w : Fin 32 → Fin 16 → EReal) (q : Fin 1024) : EReal :=
  ∑ c : Fin 32, ∑ k : Fin 16, w c k * ∑ n : Fin 16, f c (nbr x q n) * wt x (rk k) q n

/-- A squared distance is not negative. -/
theorem d2_nonneg (x : Fin 3 → Fin 1024 → EReal) (q p : Fin 1024) : 0 ≤ d2 x q p :=
  add_nonneg (add_nonneg (Weight.sq_nonneg _) (Weight.sq_nonneg _)) (Weight.sq_nonneg _)

/-- Where a point's squared distance is finite, its coordinates and the query's are real numbers. -/
theorem real_of_d2 (x : Fin 3 → Fin 1024 → EReal) (q p : Fin 1024) (h : d2 x q p < ⊤) (d : Fin 3) :
    ∃ r : ℝ, x d p = r := by
  have h' := not_or.mp fun h' => h.ne (Weight.sumSq_eq_top.mpr h')
  have h'' := not_or.mp h'.2
  have key : ∀ a b : EReal, ¬(a - b = ⊤ ∨ a - b = ⊥) → ∃ r : ℝ, a = r := fun a b hab =>
    Weight.eq_coe fun ha => hab (Weight.sub_infinite b ha)
  fin_cases d
  · exact key _ _ h'.1
  · exact key _ _ h''.1
  · exact key _ _ h''.2

/-- Where the neighbour is infinitely far its weight is zero. -/
theorem wt_of_top (x : Fin 3 → Fin 1024 → EReal) (r : Fin 3 → EReal) (q : Fin 1024) (n : Fin 16)
    (h : d2 x q (nbr x q n) = ⊤) : wt x r q n = 0 := by
  refine Weight.relu_of_top invSigma_pos (Weight.sumSq_eq_top.mpr ?_)
  rcases Weight.sumSq_eq_top.mp h with h | h | h
  · exact .inl (Weight.sub_infinite _ h)
  · exact .inr (.inl (Weight.sub_infinite _ h))
  · exact .inr (.inr (Weight.sub_infinite _ h))

/-- A sum over 512 positions, each `32 k + c`, is the sum over `c` and `k`. -/
theorem sum_512_kernel {M : Type} [AddCommMonoid M] (g : Fin 512 → M) :
    ∑ i : Fin 512, g i = ∑ c : Fin 32, ∑ k : Fin 16, g ⟨32 * k.val + c.val, by omega⟩ := by
  rw [Finset.sum_comm, ← Finset.sum_product', Finset.univ_product_univ]
  refine (Fintype.sum_equiv (finProdFinEquiv (m := 16) (n := 32)) _ _ fun i => ?_).symm
  refine congrArg g (Fin.ext ?_)
  show 32 * i.1.val + i.2.val = i.2.val + 32 * i.1.val
  omega

/-- A sum over 512 positions, each `16 c + k`, is the sum over `c` and `k`. -/
theorem sum_512_reference {M : Type} [AddCommMonoid M] (g : Fin 512 → M) :
    ∑ i : Fin 512, g i = ∑ c : Fin 32, ∑ k : Fin 16, g ⟨16 * c.val + k.val, by omega⟩ := by
  rw [← Finset.sum_product', Finset.univ_product_univ]
  refine (Fintype.sum_equiv (finProdFinEquiv (m := 32) (n := 16)) _ _ fun i => ?_).symm
  refine congrArg g (Fin.ext ?_)
  show 16 * i.1.val + i.2.val = i.2.val + 16 * i.1.val
  omega

end Cert.Proof.Spec

end
-- ==== Proof.SelectRead.lean ====
/- The kernel's selection rounds read at an entry: each is one round of `Rounds`, column by column. -/
module

public import proofs.«01_k».proof.Proof.BlockOps
public import proofs.«01_k».proof.Proof.Spec
public import Idealize.ShloMosaic.Lib.Pointwise
public import Idealize.ShloMosaic.Lib.PlanTiles.Rows

@[expose] public section

set_option maxRecDepth 16384

noncomputable section

namespace Cert.Proof.SelectRead

open Idealize.ShloMosaic Idealize.ShloMosaic.Pointwise Cert.KernelIdeal Cert.KernelIdeal.Gen Cert.Proof.BlockOps
open Cert.Proof.Rounds Cert.Proof.Spec

/-- The signed minimum of words of small numbers is the word of their minimum. -/
theorem fold_minsi {n : Nat} (b : Nat) (hb : b < 2 ^ 31) (g : Fin n → Nat) (hg : ∀ p, g p < 2 ^ 31) (s : Finset (Fin n)) :
    s.fold IntOp.minsi (BitVec.ofNat 32 b) (fun p => BitVec.ofNat 32 (g p)) = BitVec.ofNat 32 (s.fold min b g)
      ∧ s.fold min b g < 2 ^ 31 := by
  classical
  induction s using Finset.induction_on with
  | empty => exact ⟨rfl, hb⟩
  | insert a s ha ih =>
    rw [Finset.fold_insert ha, Finset.fold_insert ha, ih.1]
    exact ⟨(PlanTiles.minsi_word (hg a) ih.2).trans (congrArg _ (min_comm _ _)), lt_of_le_of_lt (min_le_left _ _) (hg a)⟩

variable (e : FVec Ideal S1024x128 .f32)

theorem colMin_at (q : Fin 128) : colMin e (ix2 0 q) = Finset.univ.inf fun p : Fin 1024 => e (ix2 p q) := by
  have htop : Ideal.ofBits .f32 0x7F800000#32 = ⊤ := by simp [Ideal.ofBits, Ideal.ieee]
  pointwise [colMin]
  rw [htop]
  rfl

theorem lowest_at (q : Fin 128) : lowest e (ix2 0 q) = Finset.univ.fold IntOp.minsi (BitVec.ofNat 32 2147483647)
    fun p : Fin 1024 => BitVec.ofNat 32 (if e (ix2 p q) = colMin e (ix2 0 q) then p.val else 1024) := by
  pointwise [lowest, rowNo]
  refine Finset.fold_congr fun p _ => ?_
  split <;> rfl

theorem hit_at (p : Fin 1024) (q : Fin 128) :
    hit e (ix2 p q) = IntOp.cmpi .eq (BitVec.ofNat 32 p.val) (lowest e (ix2 0 q)) := by
  pointwise [hit, rowNo]

theorem next_at (p : Fin 1024) (q : Fin 128) :
    next e (ix2 p q) = Scalar.select (hit e (ix2 p q)) ⊤ (e (ix2 p q)) := by
  pointwise [next]
  rw [IdealRules.named_const.ideal_named_scalar _ _ _ ⊤ rfl]

theorem onehot_at (p : Fin 1024) (q : Fin 128) :
    onehot e (ix2 p q) = (Scalar.select (hit e (ix2 p q)) (1 : EReal) 0 : EReal) := by
  pointwise [onehot]

/-- What one round does to a column whose entries are what is left of `d` after `i` picks. -/
theorem round_at (d : Fin 1024 → EReal) (i : Fin 1024) (q : Fin 128) (he : ∀ p, e (ix2 p q) = rest d i.val p) :
    colMin e (ix2 0 q) = d (pick d i)
      ∧ (∀ p, next e (ix2 p q) = rest d (i.val + 1) p)
      ∧ (d (pick d i) < ⊤ → ∀ p, onehot e (ix2 p q) = if p = pick d i then 1 else 0) := by
  have hmin : colMin e (ix2 0 q) = d (pick d i) := by
    rw [colMin_at]
    refine le_antisymm ?_ (Finset.le_inf fun p _ => (he p) ▸ le_rest d i p)
    exact (Finset.inf_le (Finset.mem_univ (pick d i))).trans (by rw [he, rest_pick])
  obtain ⟨hw, hlt⟩ := fold_minsi 2147483647 (by decide)
    (fun p : Fin 1024 => if e (ix2 p q) = colMin e (ix2 0 q) then p.val else 1024)
    (fun p => by split <;> omega) Finset.univ
  obtain ⟨a, ha, hlow⟩ : ∃ a : Nat, a = Finset.univ.fold min 2147483647
      (fun p : Fin 1024 => if e (ix2 p q) = colMin e (ix2 0 q) then p.val else 1024)
      ∧ lowest e (ix2 0 q) = BitVec.ofNat 32 a := ⟨_, rfl, by rw [lowest_at, hw]⟩
  rw [← ha] at hlt
  have hfin : d (pick d i) < ⊤ → a = (pick d i).val := fun ht => by
    rw [ha]
    refine le_antisymm ?_ ?_
    · refine (Finset.fold_min_le _).mpr (.inr ⟨pick d i, Finset.mem_univ _, ?_⟩)
      rw [if_pos (by rw [hmin, he, rest_pick])]
    · refine (Finset.le_fold_min _).mpr ⟨by omega, fun p _ => ?_⟩
      split
      · rename_i h
        exact pick_le_of_rest_eq d i p ht (by rw [← he, h, hmin])
      · omega
  have hhit : ∀ p : Fin 1024, hit e (ix2 p q) = if p.val = a then 1#1 else 0#1 := fun p => by
    rw [hit_at, hlow]
    simp only [IntOp.cmpi]
    by_cases h : p.val = a
    · simp [h]
    · have : BitVec.ofNat 32 p.val ≠ BitVec.ofNat 32 a := fun h' => h (by
        have := congrArg BitVec.toNat h'
        simp only [BitVec.toNat_ofNat] at this
        omega)
      rw [if_neg h, beq_eq_false_iff_ne.mpr this]
      rfl
  refine ⟨hmin, fun p => ?_, fun ht p => ?_⟩
  · rw [← round_next d i a hfin p, next_at, hhit, he]
    by_cases h : p.val = a <;> simp [h, Scalar.select]
  · rw [onehot_at, hhit, hfin ht]
    by_cases h : p = pick d i
    · simp [h, Scalar.select]
    · have h' : p.val ≠ (pick d i).val := fun h' => h (Fin.ext h')
      simp [h, h', Scalar.select]

/-- After `n` rounds a column holds what is left of it after `n` picks. -/
theorem after_at (d : Fin 1024 → EReal) (q : Fin 128) (he : ∀ p, e (ix2 p q) = d p) (n : Nat) (hn : n ≤ 1024)
    (p : Fin 1024) : after e n (ix2 p q) = rest d n p := by
  induction n generalizing p with
  | zero => rw [rest_zero]; exact he p
  | succ n ih => exact (round_at (after e n) d ⟨n, hn⟩ q (ih (Nat.le_of_succ_le hn))).2.1 p

end Cert.Proof.SelectRead

end
-- ==== Proof.BlockRead.lean ====
/- One block of the kernel read at an entry: given what the block's operands hold, what is stored for an anchor is the
   result the specification states. -/
module

public import proofs.«01_k».proof.Proof.SelectRead

@[expose] public section

set_option maxRecDepth 16384

noncomputable section

namespace Cert.Proof.BlockRead

open Idealize.ShloMosaic Idealize.ShloMosaic.Pointwise Cert.KernelIdeal Cert.KernelIdeal.Gen Cert.Proof.BlockOps
open Cert.Proof.Rounds Cert.Proof.Spec Cert.Proof.SelectRead

/-- The column of query `q` among the sixteen stretches of 128, in stretch `n`. -/
def col (n : Fin 16) (q : Fin 128) : Fin 2048 := ⟨128 * n.val + q.val, by omega⟩

variable (e : FVec Ideal S1024x128 .f32)

theorem onehots_at (p : Fin 1024) (n : Fin 16) (q : Fin 128) :
    onehots e (ix2 p (col n q)) = onehot (after e n.val) (ix2 p q) := by
  refine concatenate_ofFn_apply (t := S1024x2048) (s₁ := S1024x128) 1 (fun n : Fin 16 => onehot (after e n.val))
    _ rfl 128 rfl (ix2 p (col n q)) n ?_ (ix2 p q) ?_ ?_
  · show (128 * n.val + q.val) / 128 = n.val
    omega
  · show q.val = (128 * n.val + q.val) % 128
    omega
  · intro b hb
    fin_cases b
    · rfl
    · exact absurd rfl hb

theorem mins_at (n : Fin 16) (q : Fin 128) :
    mins e (ix2 0 (col n q)) = colMin (after e n.val) (ix2 0 q) := by
  refine concatenate_ofFn_apply (t := S1x2048) (s₁ := S1x128) 1 (fun n : Fin 16 => colMin (after e n.val))
    _ rfl 128 rfl (ix2 0 (col n q)) n ?_ (ix2 0 q) ?_ ?_
  · show (128 * n.val + q.val) / 128 = n.val
    omega
  · show q.val = (128 * n.val + q.val) % 128
    omega
  · intro b hb
    fin_cases b
    · rfl
    · exact absurd rfl hb

theorem gathered_at (fx : FVec Ideal S646x1024 .bf16) (r : Fin 646) (n : Fin 16) (q : Fin 128) :
    (gathered fx e (ix2 r (col n q)) : EReal) = ∑ p : Fin 1024, (fx (ix2 r p) : EReal) * onehot (after e n.val) (ix2 p q) := by
  pointwise [gathered]
  exact Finset.sum_congr rfl fun p _ => by rw [onehots_at]

theorem offsets_at (xt : FVec Ideal S3x128 .f32) (g : FVec Ideal S646x2048 .f32) (d : Fin 3) (n : Fin 16)
    (q : Fin 128) : (offsets xt g (ix2 d (col n q)) : EReal)
      = (g (ix2 ⟨640 + d.val, by omega⟩ (col n q)) + g (ix2 ⟨643 + d.val, by omega⟩ (col n q))) - xt (ix2 d q) := by
  have h : (concatenate S3x2048 1 (List.ofFn fun _ : Fin 16 => (⟨S3x128, xt⟩ : (s : Shape) × FVec Ideal s .f32))
      concatenates_S3x128_S3x128_S3x128_S3x128_S3x128_S3x128_S3x128_S3x128_S3x128_S3x128_S3x128_S3x128_S3x128_S3x128_S3x128_S3x128_S3x2048_d1
      : FVec Ideal S3x2048 .f32) (ix2 d (col n q)) = xt (ix2 d q) := by
    refine concatenate_ofFn_apply (t := S3x2048) (s₁ := S3x128) 1 (fun _ : Fin 16 => xt)
      _ rfl 128 rfl (ix2 d (col n q)) n ?_ (ix2 d q) ?_ ?_
    · show (128 * n.val + q.val) / 128 = n.val
      omega
    · show q.val = (128 * n.val + q.val) % 128
      omega
    · intro b hb
      fin_cases b
      · rfl
      · exact absurd rfl hb
  refine (subf_apply _ _ _).trans ?_
  refine congrArg₂ (fun a b : EReal => a - b) ?_ h
  pointwise []

theorem cross_at (rk : FVec Ideal S320x3 .f32) (o : FVec Ideal S3x2048 .f32) (r : Fin 320) (c : Fin 2048) :
    (cross rk o (ix2 r c) : EReal)
      = rk (ix2 r 0) * o (ix2 0 c) + rk (ix2 r 1) * o (ix2 1 c) + rk (ix2 r 2) * o (ix2 2 c) := by
  pointwise [cross]

theorem weights_at (cka : FVec Ideal S320x1 .f32) (ms : FVec Ideal S1x2048 .f32) (x : FVec Ideal S320x2048 .f32)
    (r : Fin 320) (c : Fin 2048) : (weights cka ms x (ix2 r c) : EReal)
      = max (((cka (ix2 r 0) : EReal) - ms (ix2 0 c) * (invSigma : EReal)) + x (ix2 r c)) 0 := by
  pointwise [weights]
  rw [IdealRules.named_const.ideal_named_scalar _ _ _ ((67108864 / 5368709 : ℝ) : EReal) rfl]
  rfl

theorem product_at (fa : FVec Ideal S32x2048 .f32) (wa : FVec Ideal S16x2048 .f32) (n : Fin 16)
    (hf : S32x2048.Slices ![0, 128 * n.val] S32x128) (hw : S16x2048.Slices ![0, 128 * n.val] S16x128) (k : Fin 16)
    (c : Fin 32) (q : Fin 128) : (product fa wa n.val hf hw (ix3 k c q) : EReal)
      = wa (ix2 k (col n q)) * fa (ix2 c (col n q)) := by
  pointwise [product]
  rfl

theorem summed_at (fa : FVec Ideal S32x2048 .f32) (wa : FVec Ideal S16x2048 .f32) (k : Fin 16) (c : Fin 32)
    (q : Fin 128) (n : Nat) (h : n < 16) : (summed fa wa n h (ix3 k c q) : EReal)
      = ∑ i : Fin (n + 1), (wa (ix2 k (col (i.castLE h) q)) : EReal) * fa (ix2 c (col (i.castLE h) q)) := by
  induction n with
  | zero =>
    rw [Fin.sum_univ_one]
    exact product_at fa wa 0 _ _ k c q
  | succ n ih =>
    rw [Fin.sum_univ_castSucc]
    exact congrArg₂ (fun a b : EReal => a + b) (ih (Nat.lt_of_succ_lt h)) (product_at fa wa ⟨n + 1, h⟩ _ _ k c q)

theorem stored_at (w2 : FVec Ideal S64x512 .f32) (g : FVec Ideal S646x2048 .f32) (w : FVec Ideal S320x2048 .f32)
    (a : Fin 20) (o : Fin 64) (q : Fin 128) : (stored w2 g w a (ix4 0 o 0 q) : EReal)
      = ∑ c : Fin 32, ∑ k : Fin 16, (w2 (ix2 o ⟨32 * k.val + c.val, by omega⟩) : EReal)
          * ∑ n : Fin 16, (w (ix2 ⟨16 * a.val + k.val, by omega⟩ (col n q)) : EReal)
            * g (ix2 ⟨32 * a.val + c.val, by omega⟩ (col n q)) := by
  pointwise [stored]
  refine (sum_512_kernel _).trans (Finset.sum_congr rfl fun c _ => Finset.sum_congr rfl fun k _ => ?_)
  refine congrArg₂ (fun a b : EReal => a * b) rfl ?_
  refine (summed_at _ _ _ _ q 15 (by decide)).trans (Finset.sum_congr rfl fun n _ => ?_)
  refine congrArg₂ (fun a b : EReal => a * b) ?_ ?_
  · pointwise [weightRows]
    refine congrArg w (congrArg₂ ix2 (Fin.ext ?_) rfl)
    show 16 * a.val + (32 * k.val + c.val) / 32 = 16 * a.val + k.val
    omega
  · pointwise [featRows]
    refine congrArg g (congrArg₂ ix2 (Fin.ext ?_) rfl)
    show 32 * a.val + (32 * k.val + c.val) % 32 = 32 * a.val + c.val
    omega

section Block

variable (x0 : Vec Ideal S1x1024x3 .f32) (x1 : Vec Ideal S1x3x128 .f32) (x2 : Vec Ideal S1x646x1024 .bf16)
  (x3 : Vec Ideal S320x3 .f32) (x4 : Vec Ideal S320x1 .f32) (x5 : Vec Ideal S64x512 .f32)

theorem dists_at (p : Fin 1024) (q : Fin 128) : (dists x0 x1 x2 x3 x4 x5 (ix2 p q) : EReal)
    = ((x0 (ix3 0 p 0) : EReal) - x1 (ix3 0 0 q)) * ((x0 (ix3 0 p 0) : EReal) - x1 (ix3 0 0 q))
      + ((x0 (ix3 0 p 1) : EReal) - x1 (ix3 0 1 q)) * ((x0 (ix3 0 p 1) : EReal) - x1 (ix3 0 1 q))
      + ((x0 (ix3 0 p 2) : EReal) - x1 (ix3 0 2 q)) * ((x0 (ix3 0 p 2) : EReal) - x1 (ix3 0 2 q)) := by
  pointwise [dists, k0_pay257, k0_pay7, k0_pay2]

theorem centre_at (d : Fin 3) (q : Fin 128) : k0_pay252 x0 x1 x2 x3 x4 x5 (ix2 d q) = x1 (ix3 0 d q) := by
  pointwise [k0_pay252, k0_pay2]

theorem operand_at (r : Fin 646) (p : Fin 1024) : k0_pay253 x0 x1 x2 x3 x4 x5 (ix2 r p) = x2 (ix3 0 r p) := by
  pointwise [k0_pay253, k0_pay3]

theorem points_at (r : Fin 320) (d : Fin 3) : (k0_pay254 x0 x1 x2 x3 x4 x5 (ix2 r d) : EReal)
    = (x3 (ix2 r d) : EReal) * (twoOverSigma : EReal) := by
  pointwise [k0_pay254, k0_pay4]
  rw [IdealRules.named_const.ideal_named_scalar _ _ _ ((134217728 / 5368709 : ℝ) : EReal) rfl]
  rfl

theorem part_at (r : Fin 320) : k0_pay255 x0 x1 x2 x3 x4 x5 (ix2 r 0) = x4 (ix2 r 0) := by
  pointwise [k0_pay255, k0_pay5]

theorem outWeights_at (o : Fin 64) (i : Fin 512) : k0_pay256 x0 x1 x2 x3 x4 x5 (ix2 o i) = x5 (ix2 o i) := by
  pointwise [k0_pay256, k0_pay6]

variable (x : Fin 3 → Fin 1024 → EReal) (f : Fin 20 → Fin 32 → Fin 1024 → EReal)
  (rk : Fin 20 → Fin 16 → Fin 3 → EReal) (w : Fin 64 → Fin 32 → Fin 16 → EReal) (qq : Fin 128 → Fin 1024)

/-- What a block's operands hold: all the points, the block's queries, the features with the points' coordinates in two
    parts, the kernel points, the constant part of every weight, and the output weights. -/
structure Holds : Prop where
  points : ∀ p d, (x0 (ix3 0 p d) : EReal) = x d p
  queries : ∀ d q, (x1 (ix3 0 d q) : EReal) = x d (qq q)
  features : ∀ (a : Fin 20) (c : Fin 32) p, (x2 (ix3 0 ⟨32 * a.val + c.val, by omega⟩ p) : EReal) = f a c p
  high : ∀ (d : Fin 3) p, (x2 (ix3 0 ⟨640 + d.val, by omega⟩ p) : EReal) = x d p
  low : ∀ (d : Fin 3) p, (x2 (ix3 0 ⟨643 + d.val, by omega⟩ p) : EReal) = x d p - x d p
  kernel : ∀ (a : Fin 20) (k : Fin 16) d, (x3 (ix2 ⟨16 * a.val + k.val, by omega⟩ d) : EReal) = rk a k d
  part : ∀ (a : Fin 20) (k : Fin 16), (x4 (ix2 ⟨16 * a.val + k.val, by omega⟩ 0) : EReal)
    = 1 - (rk a k 0 * rk a k 0 + rk a k 1 * rk a k 1 + rk a k 2 * rk a k 2) * (invSigma : EReal)
  output : ∀ (o : Fin 64) (c : Fin 32) (k : Fin 16), (x5 (ix2 o ⟨32 * k.val + c.val, by omega⟩) : EReal) = w o c k

variable {x0 x1 x2 x3 x4 x5 x f rk w qq} (h : Holds x0 x1 x2 x3 x4 x5 x f rk w qq)
include h

/-- Before any round, a column holds the squared distances from its query. -/
theorem Holds.dists (p : Fin 1024) (q : Fin 128) : (BlockOps.dists x0 x1 x2 x3 x4 x5 (ix2 p q) : EReal) = d2 x (qq q) p := by
  rw [dists_at]
  simp only [h.points, h.queries]
  rfl

/-- What the `n`-th round finds in a column, and what it selects where that distance is finite. -/
theorem Holds.round (n : Fin 16) (q : Fin 128) :
    (colMin (after (BlockOps.dists x0 x1 x2 x3 x4 x5) n.val) (ix2 0 q) : EReal) = d2 x (qq q) (nbr x (qq q) n)
      ∧ (d2 x (qq q) (nbr x (qq q) n) < ⊤ → ∀ p,
        (onehot (after (BlockOps.dists x0 x1 x2 x3 x4 x5) n.val) (ix2 p q) : EReal) = if p = nbr x (qq q) n then 1 else 0) := by
  have hr := round_at (after (BlockOps.dists x0 x1 x2 x3 x4 x5) n.val) (d2 x (qq q)) (place n) q
    (after_at _ _ q (fun p => h.dists p q) n.val (by omega))
  exact ⟨hr.1, hr.2.2⟩

/-- A gathered row, where the neighbour's distance is finite, is the operand's at the neighbour. -/
theorem Holds.gathered (n : Fin 16) (q : Fin 128) (ht : d2 x (qq q) (nbr x (qq q) n) < ⊤) (r : Fin 646) :
    (feats x0 x1 x2 x3 x4 x5 (ix2 r (col n q)) : EReal) = x2 (ix3 0 r (nbr x (qq q) n)) := by
  refine (gathered_at _ _ r n q).trans ?_
  simp only [(h.round n q).2 ht, mul_ite, mul_one, mul_zero, Finset.sum_ite_eq', Finset.mem_univ, if_true]
  exact operand_at x0 x1 x2 x3 x4 x5 r _

/-- An offset, where the neighbour's distance is finite. -/
theorem Holds.offset (n : Fin 16) (q : Fin 128) (ht : d2 x (qq q) (nbr x (qq q) n) < ⊤) (d : Fin 3) :
    (offsets (k0_pay252 x0 x1 x2 x3 x4 x5) (feats x0 x1 x2 x3 x4 x5) (ix2 d (col n q)) : EReal)
      = x d (nbr x (qq q) n) - x d (qq q) := by
  refine (offsets_at _ _ d n q).trans ?_
  rw [h.gathered n q ht, h.gathered n q ht, h.high, h.low, centre_at, h.queries]
  obtain ⟨r, hr⟩ := real_of_d2 x (qq q) _ ht d
  rw [hr, ← EReal.coe_sub, sub_self, EReal.coe_zero, add_zero]

/-- A block's weights are the specification's. -/
theorem Holds.weight (a : Fin 20) (k n : Fin 16) (q : Fin 128) :
    (wts x0 x1 x2 x3 x4 x5 (ix2 ⟨16 * a.val + k.val, by omega⟩ (col n q)) : EReal) = wt x (rk a k) (qq q) n := by
  refine (weights_at _ _ _ _ _).trans ?_
  rw [cross_at, mins_at, part_at, h.part, (h.round n q).1]
  simp only [points_at, h.kernel]
  refine Weight.weight_eq invSigma_pos twoOverSigma_eq _ _ _ _ _ _ _ _ _ fun ht => ?_
  exact ⟨h.offset n q ht 0, h.offset n q ht 1, h.offset n q ht 2⟩

/-- What is stored for an anchor is the specification's result. -/
theorem Holds.stored (a : Fin 20) (o : Fin 64) (q : Fin 128) :
    (BlockOps.stored (k0_pay256 x0 x1 x2 x3 x4 x5) (feats x0 x1 x2 x3 x4 x5) (wts x0 x1 x2 x3 x4 x5) a (ix4 0 o 0 q) : EReal)
      = result x (f a) (rk a) (w o) (qq q) := by
  rw [stored_at]
  refine Finset.sum_congr rfl fun c _ => Finset.sum_congr rfl fun k _ => ?_
  rw [outWeights_at, h.output]
  refine congrArg _ (Finset.sum_congr rfl fun n _ => ?_)
  rw [h.weight, mul_comm]
  by_cases ht : d2 x (qq q) (nbr x (qq q) n) < ⊤
  · rw [h.gathered n q ht, h.features]
  · rw [wt_of_top x (rk a k) (qq q) n (not_lt_top_iff.mp ht), mul_zero, mul_zero]

end Block

end Cert.Proof.BlockRead

end
-- ==== Proof.Args.lean ====
/- The specification's inputs, read off the five argument arrays. -/
module

public import proofs.«01_k».proof.Proof.Spec
public import Idealize.ShloMosaic.Lib.Pointwise

@[expose] public section

noncomputable section

namespace Cert.Proof.Args

open Idealize.ShloMosaic Idealize.ShloMosaic.Pointwise

/-- The points of one cloud. -/
def point (x0 : FVec Ideal ⟨3, ![2, 3, 1024]⟩ .f32) (b : Fin 2) (d : Fin 3) (p : Fin 1024) : EReal := x0 (ix3 b d p)

/-- The features of one cloud at one anchor. -/
def feature (x1 : FVec Ideal ⟨4, ![2, 32, 1024, 20]⟩ .f32) (b : Fin 2) (a : Fin 20) (c : Fin 32) (p : Fin 1024) : EReal :=
  x1 (ix4 b c p a)

/-- The kernel points turned by an anchor's rotation. -/
def kernelPoint (x2 : FVec Ideal ⟨3, ![20, 3, 3]⟩ .f32) (x3 : FVec Ideal ⟨2, ![16, 3]⟩ .f32) (a : Fin 20) (k : Fin 16)
    (d : Fin 3) : EReal :=
  ∑ j : Fin 3, (x2 (ix3 a d j) : EReal) * x3 (ix2 k j)

/-- The output weights. -/
def outWeight (x4 : FVec Ideal ⟨2, ![64, 512]⟩ .f32) (o : Fin 64) (c : Fin 32) (k : Fin 16) : EReal :=
  x4 (ix2 o ⟨16 * c.val + k.val, by omega⟩)

/-- The result at cloud `b`, output feature `o`, query `q` and anchor `a`. -/
def value (x0 : FVec Ideal ⟨3, ![2, 3, 1024]⟩ .f32) (x1 : FVec Ideal ⟨4, ![2, 32, 1024, 20]⟩ .f32)
    (x2 : FVec Ideal ⟨3, ![20, 3, 3]⟩ .f32) (x3 : FVec Ideal ⟨2, ![16, 3]⟩ .f32) (x4 : FVec Ideal ⟨2, ![64, 512]⟩ .f32)
    (b : Fin 2) (o : Fin 64) (q : Fin 1024) (a : Fin 20) : EReal :=
  Spec.result (point x0 b) (feature x1 b a) (kernelPoint x2 x3 a) (outWeight x4 o) q

/-- The f32 number nearest 0.08 is 5368709 / 2 ^ 26. -/
theorem sigma_bits : Ideal.ofBits .f32 0x3DA3D70A#32 = ((5368709 / 67108864 : ℝ) : EReal) := by
  simp [Ideal.ofBits, Ideal.ieee, -EReal.coe_mul]
  norm_num

/-- Division by sigma is multiplication by one over sigma. -/
theorem div_sigma (x : EReal) : Ideal.div x (Ideal.ofBits .f32 0x3DA3D70A#32) = x * (Spec.invSigma : EReal) := by
  rw [sigma_bits, Ideal.div_coe (by norm_num)]
  unfold Spec.invSigma
  norm_num

end Cert.Proof.Args

end
-- ==== Proof.HostRead.lean ====
/- What the kernel's operands hold when the launch begins, as functions of the arguments. -/
module

public import proofs.«01_k».proof.Proof.BlockRead
public import proofs.«01_k».proof.Proof.Args
public import Idealize.ShloMosaic.Lib.StableHlo.ReadAt

@[expose] public section

set_option maxRecDepth 16384

noncomputable section

namespace Cert.Proof.HostRead

open Idealize.ShloMosaic Idealize.ShloMosaic.Pointwise Cert.KernelIdeal Cert.KernelIdeal.Gen TcCoe Cert.Proof.Spec Cert.Proof.Args

variable (m : (ℓ : Loc nD τ sig) → Buf (Elt Ideal) ℓ) (c : Dev nD)

theorem points_at (b : Fin 2) (p : Fin 1024) (d : Fin 3) :
    V m c main_v12 (ix3 b p d) = m ((c : Thread nD τ).loc main_arg0) (ix3 b d p) := by
  unfold V V0
  after_reads_at

theorem features_at (b : Fin 2) (a : Fin 20) (i : Fin 32) (p : Fin 1024) :
    V m c main_v20 (ix3 b ⟨32 * a.val + i.val, by omega⟩ p) = m ((c : Thread nD τ).loc main_arg1) (ix4 b i p a) := by
  unfold V V0
  after_reads_at
  rw [dif_pos (show 32 * a.val + i.val < 640 by omega)]
  after_reads_at
  refine congrArg (m ((c : Thread nD τ).loc main_arg1)) (congrArg₂ (fun i a => ix4 b i p a) (Fin.ext ?_) (Fin.ext ?_))
  · show (32 * a.val + i.val) % 32 = i.val
    omega
  · show (32 * a.val + i.val) / 32 = a.val
    omega

theorem high_at (b : Fin 2) (d : Fin 3) (p : Fin 1024) :
    V m c main_v20 (ix3 b ⟨640 + d.val, by omega⟩ p) = m ((c : Thread nD τ).loc main_arg0) (ix3 b d p) := by
  unfold V V0
  after_reads_at
  after_reads_at

theorem low_at (b : Fin 2) (d : Fin 3) (p : Fin 1024) :
    (V m c main_v20 (ix3 b ⟨643 + d.val, by omega⟩ p) : EReal)
      = point (m ((c : Thread nD τ).loc main_arg0)) b d p - point (m ((c : Thread nD τ).loc main_arg0)) b d p := by
  unfold V V0
  after_reads_at
  have hd : (⟨643 + d.val - 640 - 3, by omega⟩ : Fin 3) = d := Fin.ext (by show 643 + d.val - 640 - 3 = d.val; omega)
  rw [dif_neg (show ¬643 + d.val < 640 by omega), dif_neg (show ¬643 + d.val - 640 < 3 by omega)]
  after_reads_at
  rw [hd]
  rfl

theorem kernel_at (a : Fin 20) (k : Fin 16) (d : Fin 3) :
    (V m c main_v4 (ix2 ⟨16 * a.val + k.val, by omega⟩ d) : EReal) = kernelPoint (m ((c : Thread nD τ).loc main_arg2)) (m ((c : Thread nD τ).loc main_arg3)) a k d := by
  unfold V V0
  after_reads_at
  rfl

/-- The constant part of every weight: one less the turned kernel point's squared length over sigma. -/
def partOf (r : Fin 3 → EReal) : EReal := 1 - (r 0 * r 0 + r 1 * r 1 + r 2 * r 2) * (invSigma : EReal)

theorem part_row (r : Fin 320) :
    (V m c main_v11 (ix2 r 0) : EReal) = partOf (kernelPoint (m ((c : Thread nD τ).loc main_arg2))
      (m ((c : Thread nD τ).loc main_arg3)) ⟨r.val / 16, by omega⟩ ⟨r.val % 16, by omega⟩) := by
  unfold V V0
  after_reads_at
  rw [Fin.sum_univ_three]
  exact congrArg (fun z : EReal => 1 - z) (div_sigma _)

theorem part_at (a : Fin 20) (k : Fin 16) :
    (V m c main_v11 (ix2 ⟨16 * a.val + k.val, by omega⟩ 0) : EReal)
      = partOf (kernelPoint (m ((c : Thread nD τ).loc main_arg2)) (m ((c : Thread nD τ).loc main_arg3)) a k) := by
  refine (part_row m c _).trans (congrArg₂ (fun a k => partOf (kernelPoint (m ((c : Thread nD τ).loc main_arg2))
    (m ((c : Thread nD τ).loc main_arg3)) a k)) (Fin.ext ?_) (Fin.ext ?_))
  · show (16 * a.val + k.val) / 16 = a.val
    omega
  · show (16 * a.val + k.val) % 16 = k.val
    omega

theorem output_at (o : Fin 64) (i : Fin 32) (k : Fin 16) :
    V m c main_v23 (ix2 o ⟨32 * k.val + i.val, by omega⟩) = m ((c : Thread nD τ).loc main_arg4) (ix2 o ⟨16 * i.val + k.val, by omega⟩) := by
  unfold V V0
  after_reads_at
  refine congrArg (m ((c : Thread nD τ).loc main_arg4)) (congrArg (ix2 o) (Fin.ext ?_))
  show i.val * 16 + k.val = 16 * i.val + k.val
  omega

end Cert.Proof.HostRead

end
-- ==== Proof.Array.lean ====
/- The array the launch leaves, and @main's result: every entry is the value the specification states. -/
module

public import proofs.«01_k».proof.Proof.HostRead
public import Idealize.ShloMosaic.Lib.Pipeline.ValueKit

@[expose] public section

set_option maxRecDepth 16384

noncomputable section

namespace Cert.Proof.Array

open Idealize.ShloMosaic Idealize.ShloMosaic.Pointwise Cert.KernelIdeal Cert.KernelIdeal.Gen TcCoe
open Cert.Proof.Spec Cert.Proof.Args Cert.Proof.BlockOps Cert.Proof.BlockRead Cert.Proof.HostRead

/-- The cloud a grid point works on. -/
def cloud (t : Fin cfg0.N) : Fin 2 := grid0.coords t 0

/-- The tile of queries a grid point works on. -/
def tile (t : Fin cfg0.N) : Fin 8 := grid0.coords t 1

/-- The queries of a grid point's block. -/
def query (t : Fin cfg0.N) (q : Fin 128) : Fin 1024 := ⟨128 * (tile t).val + q.val, by omega⟩

theorem index0 : ∀ t : Fin cfg0.N, win0_0.index t = ![(cloud t).val, 0, 0] := (by decide +kernel : ∀ t : Fin grid0.N, _)
theorem index1 : ∀ t : Fin cfg0.N, win0_1.index t = ![(cloud t).val, 0, (tile t).val] := (by decide +kernel : ∀ t : Fin grid0.N, _)
theorem index2 : ∀ t : Fin cfg0.N, win0_2.index t = ![(cloud t).val, 0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![(cloud t).val, 0, 0, (tile t).val] := (by decide +kernel : ∀ t : Fin grid0.N, _)

variable (m : (ℓ : Loc nD τ sig) → Buf (Elt Ideal) ℓ) (c : Dev nD) (t : Fin cfg0.N)

/-! ## The operands' blocks -/

theorem block0 (p : Fin 1024) (d : Fin 3) : iblk m c 0 t (ix3 0 p d) = V m c main_v12 (ix3 (cloud t) p d) := by
  blk_simp [iblk]
  refine congrArg (V m c main_v12) (funext fun a => Fin.ext ?_)
  fin_cases a <;> blk_simp [index0] <;> rfl

theorem block1 (d : Fin 3) (q : Fin 128) : iblk m c 1 t (ix3 0 d q) = V m c main_arg0 (ix3 (cloud t) d (query t q)) := by
  blk_simp [iblk]
  refine congrArg (V m c main_arg0) (funext fun a => Fin.ext ?_)
  fin_cases a <;> blk_simp [index1]
  · rfl
  · rfl
  · exact congrArg (· + q.val) (Nat.mul_comm _ _)

theorem block2 (r : Fin 646) (p : Fin 1024) : iblk m c 2 t (ix3 0 r p) = V m c main_v20 (ix3 (cloud t) r p) := by
  blk_simp [iblk]
  refine congrArg (V m c main_v20) (funext fun a => Fin.ext ?_)
  fin_cases a <;> blk_simp [index2] <;> rfl

theorem block3 (r : Fin 320) (d : Fin 3) : iblk m c 3 t (ix2 r d) = V m c main_v4 (ix2 r d) := by
  blk_simp [iblk]
  refine congrArg (V m c main_v4) (funext fun a => Fin.ext ?_)
  fin_cases a <;> blk_simp [index3]

theorem block4 (r : Fin 320) : iblk m c 4 t (ix2 r 0) = V m c main_v11 (ix2 r 0) := by
  blk_simp [iblk]
  refine congrArg (V m c main_v11) (funext fun a => Fin.ext ?_)
  fin_cases a <;> blk_simp [index4]

theorem block5 (o : Fin 64) (i : Fin 512) : iblk m c 5 t (ix2 o i) = V m c main_v23 (ix2 o i) := by
  blk_simp [iblk]
  refine congrArg (V m c main_v23) (funext fun a => Fin.ext ?_)
  fin_cases a <;> blk_simp [index5]

/-- The operands' blocks hold what the block's computation assumes. -/
theorem holds : Holds (iblk m c 0 t) (iblk m c 1 t) (iblk m c 2 t) (iblk m c 3 t) (iblk m c 4 t) (iblk m c 5 t)
    (point (m ((c : Thread nD τ).loc main_arg0)) (cloud t)) (feature (m ((c : Thread nD τ).loc main_arg1)) (cloud t))
    (kernelPoint (m ((c : Thread nD τ).loc main_arg2)) (m ((c : Thread nD τ).loc main_arg3)))
    (outWeight (m ((c : Thread nD τ).loc main_arg4))) (query t) where
  points p d := (block0 m c t p d).trans (points_at m c _ p d)
  queries d q := (block1 m c t d q).trans (congrFun (V_main_arg0 m c) _)
  features a i p := (block2 m c t _ p).trans (features_at m c _ a i p)
  high d p := (block2 m c t _ p).trans (high_at m c _ d p)
  low d p := (block2 m c t _ p).trans (low_at m c _ d p)
  kernel a k d := (block3 m c t _ d).trans (kernel_at m c a k d)
  part a k := (block4 m c t _).trans (part_at m c a k)
  output o i k := (block5 m c t o _).trans (output_at m c o i k)

/-! ## The block written back, and the array -/

/-- The value the array holds at an entry, its anchor before its query. -/
def entry (b : Fin 2) (o : Fin 64) (a : Fin 20) (q : Fin 1024) : EReal :=
  value (m ((c : Thread nD τ).loc main_arg0)) (m ((c : Thread nD τ).loc main_arg1)) (m ((c : Thread nD τ).loc main_arg2))
    (m ((c : Thread nD τ).loc main_arg3)) (m ((c : Thread nD τ).loc main_arg4)) b o q a

/-- The block a grid point leaves. -/
def blockValue (y : S1x64x20x128.Idx) : EReal := entry m c (cloud t) (y 1) (y 2) (query t (y 3))

/-- What is stored for an anchor is that anchor's rows of the block. -/
theorem stored_piece (a : Fin 20) (h : ∀ i, ![0, 0, a.val, 0] i + S1x64x1x128.size i ≤ S1x64x20x128.size i)
    (x : S1x64x1x128.Idx) : (stored (k0_pay256 (iblk m c 0 t) (iblk m c 1 t) (iblk m c 2 t) (iblk m c 3 t) (iblk m c 4 t)
        (iblk m c 5 t)) (feats (iblk m c 0 t) (iblk m c 1 t) (iblk m c 2 t) (iblk m c 3 t) (iblk m c 4 t) (iblk m c 5 t))
        (wts (iblk m c 0 t) (iblk m c 1 t) (iblk m c 2 t) (iblk m c 3 t) (iblk m c 4 t) (iblk m c 5 t)) a x : EReal)
      = blockValue m c t ((Rect.unit (s := S1x64x20x128) ![0, 0, a.val, 0] S1x64x1x128.size h).emb x) := by
  have hx : x = ix4 0 (x 1) 0 (x 3) := by
    funext i
    fin_cases i
    · exact Subsingleton.elim (α := Fin 1) _ _
    · rfl
    · exact Subsingleton.elim (α := Fin 1) _ _
    · rfl
  refine (congrArg _ hx).trans (((holds m c t).stored a (x 1) (x 3)).trans ?_)
  unfold blockValue entry value
  have h2 : (Rect.unit (s := S1x64x20x128) ![0, 0, a.val, 0] S1x64x1x128.size h).emb x 2 = a := Fin.ext (by
    have : (x 2).val < 1 := (x 2).isLt
    show a.val + 1 * (x 2).val = a.val
    omega)
  have h1 : (Rect.unit (s := S1x64x20x128) ![0, 0, a.val, 0] S1x64x1x128.size h).emb x 1 = x 1 := Fin.ext (by
    show 0 + 1 * (x 1).val = (x 1).val
    omega)
  have h3 : (Rect.unit (s := S1x64x20x128) ![0, 0, a.val, 0] S1x64x1x128.size h).emb x 3 = x 3 := Fin.ext (by
    show 0 + 1 * (x 3).val = (x 3).val
    omega)
  rw [h1, h2, h3]

/-- The block a grid point leaves, at every entry. -/
theorem out_at (y : S1x64x20x128.Idx) : (out0_6 (iblk m c 0 t) (iblk m c 1 t) (iblk m c 2 t) (iblk m c 3 t) (iblk m c 4 t)
    (iblk m c 5 t) y : EReal) = blockValue m c t y := by
  rw [out_eq]
  refine View.canon_apply_of_pieces (Val := Elt Ideal) (e := .f32) (blockValue m c t) _ ?_ y (cover0_6 _ _ _ _ _ _ _ _ _ _ _ _ _ _ _ _ _ _ _ _ y)
  simp only [List.forall_mem_cons]
  exact ⟨stored_piece m c t 19 _, stored_piece m c t 18 _, stored_piece m c t 17 _, stored_piece m c t 16 _,
    stored_piece m c t 15 _, stored_piece m c t 14 _, stored_piece m c t 13 _, stored_piece m c t 12 _,
    stored_piece m c t 11 _, stored_piece m c t 10 _, stored_piece m c t 9 _, stored_piece m c t 8 _,
    stored_piece m c t 7 _, stored_piece m c t 6 _, stored_piece m c t 5 _, stored_piece m c t 4 _,
    stored_piece m c t 3 _, stored_piece m c t 2 _, stored_piece m c t 1 _, stored_piece m c t 0 _,
    fun _ h => absurd h List.not_mem_nil⟩

/-- The array after the launch. -/
theorem final : (dats m 0 c).arrAt 6 cfg0.N = fun i : S2x64x20x1024.Idx => entry m c (i 0) (i 1) (i 2) (i 3) := by
  refine (dats m 0 c).arrAt_eq_of_covers 6 _ (by decide +kernel) fun t hf y => ?_
  blk_simp
  rw [after0_6]
  refine (out_at m c t y).trans ?_
  have h0 : (win0_6.blk t).view.emb y 0 = cloud t := Fin.ext (by
    have : (y 0).val < 1 := (y 0).isLt
    blk_simp [index6])
  have h1 : (win0_6.blk t).view.emb y 1 = y 1 := Fin.ext (by blk_simp [index6])
  have h2 : (win0_6.blk t).view.emb y 2 = y 2 := Fin.ext (by blk_simp [index6])
  have h3 : (win0_6.blk t).view.emb y 3 = query t (y 3) := Fin.ext (by
    blk_simp [index6]
    exact congrArg (· + (y 3).val) (Nat.mul_comm _ _))
  exact (congr (congr (congrArg₂ (entry m c) h0 h1) h2) h3).symm

/-- @main's result, its queries before its anchors. -/
theorem result_eq : Pipeline.afterTail₀ cfgs (dats m) 0 (V0 m) [hostOps1] c main_v25
    = fun i : S2x64x1024x20.Idx => entry m c (i 0) (i 1) (i 3) (i 2) := by
  funext i
  unfold Pipeline.afterTail₀
  after_reads_at
  refine (congrFun (Pipeline.withArrays_arr spec0 (by decide) c (V0 m c) (fun w => (dats m 0 c).arrAt w cfg0.N) 6) _).trans ?_
  exact congrFun (final m c) _

end Cert.Proof.Array

end
-- ==== Proof.RefSelect.lean ====
/- The reference's sixteen neighbours: its top-k of the negated squared distances picks, at place `n`, the point that
   the specification names the `n`-th neighbour. -/
module

public import proofs.«01_k».proof.Proof.Args
public import proofs.«01_k».proof.Proof.Gen.ReferenceIdeal.Read
public import Idealize.ShloMosaic.Lib.Pointwise

@[expose] public section

set_option maxRecDepth 16384

noncomputable section

namespace Cert.Proof.RefSelect

open Idealize.ShloMosaic Idealize.ShloMosaic.Pointwise Cert.ReferenceIdeal.Read

/-- The reference's distance table holds, at query `q` and point `p`, the squared distance of the two. -/
theorem dist_at (x0 : FVec Ideal ⟨3, ![2, 3, 1024]⟩ .f32) (b : Fin 2) (q p : Fin 1024) :
    val_main_v6 (F := Ideal) x0 (ix3 b q p) = Spec.d2 (Args.point x0 b) q p := by
  pointwise [val_main_v6, val_main_v5, val_main_v4, val_main_v3, val_main_v2, val_main_v1, val_main_v0, val_main_cst]
  rw [Fin.sum_univ_three]
  unfold Spec.d2 Args.point
  refine congrArg₂ _ (congrArg₂ _ ?_ ?_) ?_ <;> exact Weight.sq_sub_comm _ _

/-- Greater by its negation is less. -/
theorem greater_neg (a b : EReal) :
    (FloatOps.cmpfTotal (F := Ideal) (φ := .f32) .gt (-a : EReal) (-b : EReal) == 1#1) = decide (a < b) := by
  rw [Ideal.cmpfTotal_def]
  by_cases h : a < b <;> simp [Ideal.cmp, CmpDirection.ordered, h]

/-- The negated distances at a query. -/
theorem neg_at (x0 : FVec Ideal ⟨3, ![2, 3, 1024]⟩ .f32) (b : Fin 2) (q p : Fin 1024) :
    val_main_v7 (F := Ideal) x0 (ix3 b q p) = -(Spec.d2 (Args.point x0 b) q p) := by
  rw [val_main_v7_apply, dist_at]
  rfl

/-- The iota along the last axis, where the last coordinate is set. -/
theorem iota_along (j : (⟨3, ![2, 1024, 1024]⟩ : Shape).Idx) (h2 : 2 < 3) (k : Fin 1024) :
    iotaInDim ⟨3, ![2, 1024, 1024]⟩ 32 2 (j.along ⟨2, h2⟩ k) = BitVec.ofNat 32 k.val := rfl

/-- The positions of a top-k along the last axis: the stable sort's first ones. -/
theorem topK_at (y : FVec Ideal ⟨3, ![2, 1024, 1024]⟩ .f32)
    (h : (⟨3, ![2, 1024, 1024]⟩ : Shape).Slices (fun _ => 0) ⟨3, ![2, 1024, 16]⟩) (b : Fin 2) (q : Fin 1024) (n : Fin 16) :
    (Host.topK ⟨3, ![2, 1024, 16]⟩ 2 (FloatOps.cmpfTotal (F := Ideal) .gt) y h).2 (ix3 b q n)
      = BitVec.ofNat 32 (sortedFrom (fun p p' => FloatOps.cmpfTotal (F := Ideal) .gt (y (ix3 b q p)) (y (ix3 b q p')) == 1#1)
          (Spec.place n)).val := by
  have h2 : 2 < 3 := by decide
  have hix : ∀ (h2 : 2 < 3) (k : Fin 1024),
      (ix3 b q (Spec.place n) : (⟨3, ![2, 1024, 1024]⟩ : Shape).Idx).along ⟨2, h2⟩ k = ix3 b q k := by
    intro h2 k; funext a; fin_cases a <;> rfl
  have hsl : extractStridedSlice (s := ⟨3, ![2, 1024, 1024]⟩) ⟨3, ![2, 1024, 16]⟩ (fun _ => 0)
      (Host.sort2 ⟨3, ![2, 1024, 1024]⟩ 2 (fun l r : Ideal .f32 × BitVec 32 => FloatOps.cmpfTotal (F := Ideal) .gt l.1 r.1) y
        (iotaInDim ⟨3, ![2, 1024, 1024]⟩ 32 2)).2 h (ix3 b q n)
      = (Host.sort2 ⟨3, ![2, 1024, 1024]⟩ 2 (fun l r : Ideal .f32 × BitVec 32 => FloatOps.cmpfTotal (F := Ideal) .gt l.1 r.1) y
        (iotaInDim ⟨3, ![2, 1024, 1024]⟩ 32 2)).2 (ix3 b q (Spec.place n)) := by
    pointwise []
    rfl
  refine Eq.trans hsl ?_
  unfold Host.sort2
  rw [dif_pos (by decide)]
  dsimp only
  refine (iota_along _ h2 _).trans (congrArg (fun p : Fin 1024 => BitVec.ofNat 32 p.val) ?_)
  have hR : (fun p p' : Fin 1024 => FloatOps.cmpfTotal (F := Ideal) (φ := .f32) .gt
        (y ((ix3 b q (Spec.place n) : (⟨3, ![2, 1024, 1024]⟩ : Shape).Idx).along ⟨2, h2⟩ p))
        (y ((ix3 b q (Spec.place n) : (⟨3, ![2, 1024, 1024]⟩ : Shape).Idx).along ⟨2, h2⟩ p')) == 1#1)
      = fun p p' => FloatOps.cmpfTotal (F := Ideal) .gt (y (ix3 b q p)) (y (ix3 b q p')) == 1#1 :=
    funext fun p => funext fun p' => congrArg₂ (fun u v : (⟨3, ![2, 1024, 1024]⟩ : Shape).Idx =>
      FloatOps.cmpfTotal (F := Ideal) (φ := .f32) .gt (y u) (y v) == 1#1) (hix _ p) (hix _ p')
  exact congrArg (fun r : Fin 1024 → Fin 1024 → Bool => sortedFrom r (Spec.place n)) hR

/-- The reference's top-k holds the positions of the sixteen neighbours. -/
theorem indices_at (x0 : FVec Ideal ⟨3, ![2, 3, 1024]⟩ .f32) (b : Fin 2) (q : Fin 1024) (n : Fin 16) :
    val_main_indices (F := Ideal) x0 (ix3 b q n) = BitVec.ofNat 32 (Spec.nbr (Args.point x0 b) q n).val := by
  unfold val_main_indices
  refine (topK_at _ _ b q n).trans ?_
  refine congrArg (fun p : Fin 1024 => BitVec.ofNat 32 p.val) ?_
  unfold Spec.nbr Rounds.pick
  refine congrArg (fun r => sortedFrom r (Spec.place n)) (funext fun p => funext fun p' => ?_)
  rw [neg_at, neg_at]
  exact greater_neg _ _

end Cert.Proof.RefSelect

end
-- ==== Proof.RefGather.lean ====
/- The reference's two look-ups by neighbour: the offsets' points and the features. -/
module

public import proofs.«01_k».proof.Proof.RefSelect
public import Idealize.ShloMosaic.Lib.Tactic.WordOmega

@[expose] public section

set_option maxRecDepth 16384

noncomputable section

namespace Cert.Proof.RefGather

open Idealize.ShloMosaic Idealize.ShloMosaic.Pointwise Cert.ReferenceIdeal Cert.ReferenceIdeal.Read

/-- A position is not negative as a signed word, so the wrap of negative indices leaves it. -/
theorem wrap_word (p : Fin 1024) :
    Scalar.select (IntOp.cmpi .slt (BitVec.ofNat 32 p.val) 0#32) (IntOp.addi (BitVec.ofNat 32 p.val) 1024#32)
      (BitVec.ofNat 32 p.val) = BitVec.ofNat 32 p.val := by
  have hp := p.isLt
  word_omega

/-- A position is among the 1024, so the mask of positions out of range is set. -/
theorem mask_word (p : Fin 1024) :
    IntOp.andi (IntOp.cmpi .sge (BitVec.ofNat 32 p.val) 0#32) (IntOp.cmpi .sle (BitVec.ofNat 32 p.val) 1023#32) = 1#1 := by
  have hp := p.isLt
  word_omega

/-- A position read as a signed word and clamped to the last is itself. -/
theorem clamp_word (p : Fin 1024) : min (BitVec.ofNat 32 p.val).toInt.toNat (1024 - 1) = p.val := by
  have hp := p.isLt
  rw [BitVec.toInt_eq_toNat_of_lt (by rw [BitVec.toNat_ofNat]; omega), BitVec.toNat_ofNat]
  omega

/-- The "and" of one set bit is set. -/
theorem and_one (g : Fin 1 → BitVec 1) (h : g 0 = 1#1) : Finset.fold IntOp.andi (1#1) g Finset.univ = 1#1 := by
  rw [Finset.univ_unique, Finset.fold_singleton, show (default : Fin 1) = 0 from rfl, h]
  rfl

/-- The point look-up reads, at query `q` and place `n`, the point whose position its index holds there. -/
theorem gather_point (x : FVec Ideal ⟨3, ![2, 3, 1024]⟩ .f32) (idx : IVec ⟨4, ![2, 1024, 16, 1]⟩ 32) (b : Fin 2) (d : Fin 3)
    (q p : Fin 1024) (n : Fin 16) (h : idx (ix4 b q n 0) = BitVec.ofNat 32 p.val) :
    Host.gather gather_S2x3x1024_S2x1024x16x1_S2x3x1024x16_1_2_0_0_2_3_131 x idx (ix4 b d q n) = x (ix3 b d p) := by
  unfold Host.gather
  refine congrArg x (funext fun a => Fin.ext ?_)
  generalize hD : gather_S2x3x1024_S2x1024x16x1_S2x3x1024x16_1_2_0_0_2_3_131 = D
  show D.start (ix4 b d q n) idx a + D.batchCoord (ix4 b d q n) a + D.offCoord (ix4 b d q n) a = (ix3 b d p a).val
  subst hD
  match a with
  | ⟨0, _⟩ =>
    rw [GatherDims.start_batching _ _ _ _ (by decide +revert), GatherDims.offCoord_eq_zero _ _ _ (by decide +revert), GatherDims.batchCoord,
      dif_pos (by decide +revert)]
    exact Nat.zero_add _
  | ⟨1, _⟩ =>
    rw [GatherDims.batchCoord_eq_zero _ _ _ (by decide +revert), GatherDims.start, dif_neg (by decide +revert), GatherDims.offCoord,
      dif_pos (by decide +revert)]
    exact Nat.zero_add _
  | ⟨2, _⟩ =>
    rw [GatherDims.batchCoord_eq_zero _ _ _ (by decide +revert), GatherDims.offCoord_eq_zero _ _ _ (by decide +revert), GatherDims.start,
      dif_pos (by decide +revert)]
    have hsi : ∀ k, GatherDims.siIdx gather_S2x3x1024_S2x1024x16x1_S2x3x1024x16_1_2_0_0_2_3_131 (ix4 b d q n) k = ix4 b q n 0 := by
      intro k
      funext e
      refine Fin.ext ?_
      match e with
      | ⟨0, _⟩ => rfl
      | ⟨1, _⟩ => rfl
      | ⟨2, _⟩ => rfl
      | ⟨3, _⟩ => exact Nat.lt_one_iff.mp k.isLt
    rw [hsi, h]
    exact clamp_word p

/-- The feature look-up reads, at query `q` and place `n`, the feature at the position its index holds there. -/
theorem gather_feature (x : FVec Ideal ⟨4, ![2, 32, 1024, 20]⟩ .f32) (idx : IVec ⟨4, ![2, 1024, 16, 1]⟩ 32) (b : Fin 2)
    (c : Fin 32) (q p : Fin 1024) (n : Fin 16) (a : Fin 20) (h : idx (ix4 b q n 0) = BitVec.ofNat 32 p.val) :
    Host.gather gather_S2x32x1024x20_S2x1024x16x1_S2x32x1024x16x20_14_2_0_0_2_3_132120 x idx (ix5 b c q n a)
      = x (ix4 b c p a) := by
  unfold Host.gather
  refine congrArg x (funext fun a' => Fin.ext ?_)
  generalize hD : gather_S2x32x1024x20_S2x1024x16x1_S2x32x1024x16x20_14_2_0_0_2_3_132120 = D
  show D.start (ix5 b c q n a) idx a' + D.batchCoord (ix5 b c q n a) a' + D.offCoord (ix5 b c q n a) a' = (ix4 b c p a a').val
  subst hD
  match a' with
  | ⟨0, _⟩ =>
    rw [GatherDims.start_batching _ _ _ _ (by decide +revert), GatherDims.offCoord_eq_zero _ _ _ (by decide +revert), GatherDims.batchCoord,
      dif_pos (by decide +revert)]
    exact Nat.zero_add _
  | ⟨1, _⟩ | ⟨3, _⟩ =>
    rw [GatherDims.batchCoord_eq_zero _ _ _ (by decide +revert), GatherDims.start, dif_neg (by decide +revert), GatherDims.offCoord,
      dif_pos (by decide +revert)]
    exact Nat.zero_add _
  | ⟨2, _⟩ =>
    rw [GatherDims.batchCoord_eq_zero _ _ _ (by decide +revert), GatherDims.offCoord_eq_zero _ _ _ (by decide +revert), GatherDims.start,
      dif_pos (by decide +revert)]
    have hsi : ∀ k, GatherDims.siIdx gather_S2x32x1024x20_S2x1024x16x1_S2x32x1024x16x20_14_2_0_0_2_3_132120 (ix5 b c q n a) k
        = ix4 b q n 0 := by
      intro k
      funext e
      refine Fin.ext ?_
      match e with
      | ⟨0, _⟩ => rfl
      | ⟨1, _⟩ => rfl
      | ⟨2, _⟩ => rfl
      | ⟨3, _⟩ => exact Nat.lt_one_iff.mp k.isLt
    rw [hsi, h]
    exact clamp_word p

/-- The index the point look-up reads is the neighbour's position. -/
theorem pointIndex_at (x0 : FVec Ideal ⟨3, ![2, 3, 1024]⟩ .f32) (b : Fin 2) (q : Fin 1024) (n : Fin 16) :
    val_main_call0_v5 (F := Ideal) x0 (ix4 b q n 0) = BitVec.ofNat 32 (Spec.nbr (Args.point x0 b) q n).val := by
  have h : val_main_v9 (F := Ideal) x0 (ix4 b 0 q n) = BitVec.ofNat 32 (Spec.nbr (Args.point x0 b) q n).val := by
    unfold val_main_v9
    pointwise []
    exact RefSelect.indices_at x0 b q n
  pointwise [val_main_call0_v5, val_main_call0_v4, val_main_call0_v3, val_main_call0_v2, val_main_call0_v1,
    val_main_call0_v0, val_main_call0_c, val_main_call0_c_0]
  rw [h]
  exact wrap_word _

/-- The points looked up are the neighbours. -/
theorem neighbour_at (x0 : FVec Ideal ⟨3, ![2, 3, 1024]⟩ .f32) (b : Fin 2) (d : Fin 3) (q : Fin 1024) (n : Fin 16) :
    val_main_v10 (F := Ideal) x0 (ix4 b d q n) = Args.point x0 b d (Spec.nbr (Args.point x0 b) q n) := by
  have hi := pointIndex_at x0 b q n
  have hm : val_main_call0_v13 (F := Ideal) x0 (ix3 b q n) = 1#1 := by
    unfold val_main_call0_v13
    pointwise [val_main_call0_c_3]
    refine and_one _ ?_
    pointwise [val_main_call0_v12, val_main_call0_v11, val_main_call0_v10, val_main_call0_v9, val_main_call0_v8,
      val_main_call0_v7, val_main_call0_c_1, val_main_call0_c_2]
    rw [hi]
    exact mask_word _
  have hg : val_main_call0_v14 (F := Ideal) x0 (ix4 b d q n) = Args.point x0 b d (Spec.nbr (Args.point x0 b) q n) := by
    unfold val_main_call0_v14
    refine (gather_point _ _ b d q _ n hi).trans ?_
    unfold val_main_call0_v6 val_main_v8
    pointwise []
    rfl
  pointwise [val_main_v10, val_main_call0_v15]
  rw [hm, hg]
  rfl

/-- The index the feature look-up reads is the neighbour's position. -/
theorem featureIndex_at (x0 : FVec Ideal ⟨3, ![2, 3, 1024]⟩ .f32) (b : Fin 2) (q : Fin 1024) (n : Fin 16) :
    val_main_call2_v5 (F := Ideal) x0 (ix4 b q n 0) = BitVec.ofNat 32 (Spec.nbr (Args.point x0 b) q n).val := by
  have h : val_main_v30 (F := Ideal) x0 (ix5 b 0 q n 0) = BitVec.ofNat 32 (Spec.nbr (Args.point x0 b) q n).val := by
    unfold val_main_v30
    pointwise []
    exact RefSelect.indices_at x0 b q n
  pointwise [val_main_call2_v5, val_main_call2_v4, val_main_call2_v3, val_main_call2_v2, val_main_call2_v1,
    val_main_call2_v0, val_main_call2_c, val_main_call2_c_0]
  rw [h]
  exact wrap_word _

/-- The features looked up are the neighbours'. -/
theorem neighbourFeature_at (x0 : FVec Ideal ⟨3, ![2, 3, 1024]⟩ .f32) (x1 : FVec Ideal ⟨4, ![2, 32, 1024, 20]⟩ .f32)
    (b : Fin 2) (c : Fin 32) (q : Fin 1024) (n : Fin 16) (a : Fin 20) :
    val_main_v31 (F := Ideal) x0 x1 (ix5 b c q n a) = Args.feature x1 b a c (Spec.nbr (Args.point x0 b) q n) := by
  have hi := featureIndex_at x0 b q n
  have hm : val_main_call2_v13 (F := Ideal) x0 (ix3 b q n) = 1#1 := by
    unfold val_main_call2_v13
    pointwise [val_main_call2_c_3]
    refine and_one _ ?_
    pointwise [val_main_call2_v12, val_main_call2_v11, val_main_call2_v10, val_main_call2_v9, val_main_call2_v8,
      val_main_call2_v7, val_main_call2_c_1, val_main_call2_c_2]
    rw [hi]
    exact mask_word _
  have hg : val_main_call2_v14 (F := Ideal) x0 x1 (ix5 b c q n a)
      = Args.feature x1 b a c (Spec.nbr (Args.point x0 b) q n) := by
    unfold val_main_call2_v14
    refine (gather_feature _ _ b c q _ n a hi).trans ?_
    unfold val_main_call2_v6 val_main_v29
    pointwise []
    rfl
  pointwise [val_main_v31, val_main_call2_v15]
  rw [hm, hg]
  rfl

end Cert.Proof.RefGather

end
-- ==== Proof.RefRead.lean ====
/- The reference's result, read at an index: the specification's value. -/
module

public import proofs.«01_k».proof.Proof.RefGather
public import Idealize.ShloMosaic.Lib.ValueIdxRank6

@[expose] public section

set_option maxRecDepth 16384

noncomputable section

namespace Cert.Proof.RefRead

open Idealize.ShloMosaic Idealize.ShloMosaic.Pointwise Cert.ReferenceIdeal Cert.ReferenceIdeal.Read

/-- The reference's turned kernel points. -/
theorem kernel_at (x2 : FVec Ideal ⟨3, ![20, 3, 3]⟩ .f32) (x3 : FVec Ideal ⟨2, ![16, 3]⟩ .f32) (a : Fin 20) (d : Fin 3)
    (k : Fin 16) : val_main_v15 (F := Ideal) x2 x3 (ix3 a d k) = Args.kernelPoint x2 x3 a k d := by
  pointwise [val_main_v15, val_main_v14]
  rfl

/-- The reference's offset of the `n`-th neighbour from the query. -/
theorem offset_at (x0 : FVec Ideal ⟨3, ![2, 3, 1024]⟩ .f32) (b : Fin 2) (d : Fin 3) (q : Fin 1024) (n : Fin 16) :
    val_main_v13 (F := Ideal) x0 (ix4 b d q n)
      = Args.point x0 b d (Spec.nbr (Args.point x0 b) q n) - Args.point x0 b d q := by
  have hn := RefGather.neighbour_at x0 b d q n
  pointwise [val_main_v13, val_main_v12, val_main_v11]
  rw [hn]
  rfl

/-- The difference whose square the reference sums: the offset less the turned kernel point. -/
theorem diff_at (x0 : FVec Ideal ⟨3, ![2, 3, 1024]⟩ .f32) (x2 : FVec Ideal ⟨3, ![20, 3, 3]⟩ .f32)
    (x3 : FVec Ideal ⟨2, ![16, 3]⟩ .f32) (b : Fin 2) (q : Fin 1024) (a : Fin 20) (k n : Fin 16) (d : Fin 3) :
    val_main_v21 (F := Ideal) x0 x2 x3 (idx_main_v23 (ix5 b q a k n) d)
      = (Args.point x0 b d (Spec.nbr (Args.point x0 b) q n) - Args.point x0 b d q) - Args.kernelPoint x2 x3 a k d := by
  rw [val_main_v21_apply, val_main_v19_apply, val_main_v18_apply, val_main_v20_apply, val_main_v17_apply, val_main_v16_apply]
  have h1 : idx_main_v18 (idx_main_v19 (idx_main_v23 (ix5 b q a k n) d)) = ix4 b d q n := by
    funext e; fin_cases e <;> rfl
  have h2 : idx_main_v16 (idx_main_v17 (idx_main_v20 (idx_main_v23 (ix5 b q a k n) d))) = ix3 a d k := by
    funext e; fin_cases e <;> rfl
  rw [h1, h2, offset_at, kernel_at]
  rfl

/-- The reference's weight of the `n`-th neighbour at a kernel point. -/
theorem weight_at (x0 : FVec Ideal ⟨3, ![2, 3, 1024]⟩ .f32) (x2 : FVec Ideal ⟨3, ![20, 3, 3]⟩ .f32)
    (x3 : FVec Ideal ⟨2, ![16, 3]⟩ .f32) (b : Fin 2) (q : Fin 1024) (a : Fin 20) (k n : Fin 16) :
    val_main_v28 (F := Ideal) x0 x2 x3 (ix5 b q a k n) = Spec.wt (Args.point x0 b) (Args.kernelPoint x2 x3 a k) q n := by
  have hg : val_main_v23 (F := Ideal) x0 x2 x3 (ix5 b q a k n)
      = Spec.gap (Args.point x0 b) (Args.kernelPoint x2 x3 a k) q n := by
    rw [val_main_v23_apply, Fin.sum_univ_three]
    simp only [val_main_v22_apply, diff_at]
    pointwise [val_main_cst_0]
    rfl
  pointwise [val_main_v28, val_main_v27, val_main_v26, val_main_v25, val_main_v24, val_main_cst_1, val_main_cst_2,
    val_main_call1_v0, val_main_call1_cst]
  rw [hg, Args.div_sigma]
  rfl

/-- The reference's result holds the specification's value. -/
theorem result_at (x0 : FVec Ideal ⟨3, ![2, 3, 1024]⟩ .f32) (x1 : FVec Ideal ⟨4, ![2, 32, 1024, 20]⟩ .f32)
    (x2 : FVec Ideal ⟨3, ![20, 3, 3]⟩ .f32) (x3 : FVec Ideal ⟨2, ![16, 3]⟩ .f32) (x4 : FVec Ideal ⟨2, ![64, 512]⟩ .f32)
    (b : Fin 2) (o : Fin 64) (q : Fin 1024) (a : Fin 20) :
    val_main_v37 (F := Ideal) x0 x1 x2 x3 x4 (ix4 b o q a) = Args.value x0 x1 x2 x3 x4 b o q a := by
  have hv : ∀ (c : Fin 32) (k : Fin 16), val_main_v32 (F := Ideal) x0 x1 x2 x3 (ix5 b q a c k)
      = ∑ n : Fin 16, Args.feature x1 b a c (Spec.nbr (Args.point x0 b) q n)
          * Spec.wt (Args.point x0 b) (Args.kernelPoint x2 x3 a k) q n := by
    intro c k
    pointwise [val_main_v32]
    simp only [RefGather.neighbourFeature_at, weight_at]
  pointwise [val_main_v37, val_main_v36, val_main_v35, val_main_v34, val_main_v33]
  rw [Spec.sum_512_reference]
  unfold Args.value Spec.result
  refine Finset.sum_congr rfl fun c _ => Finset.sum_congr rfl fun k _ => ?_
  have hc : (⟨(16 * c.val + k.val) / 16, by omega⟩ : Fin 32) = c := Fin.ext (by show (16 * c.val + k.val) / 16 = c.val; omega)
  have hk : (⟨(16 * c.val + k.val) % 16, by omega⟩ : Fin 16) = k := Fin.ext (by show (16 * c.val + k.val) % 16 = k.val; omega)
  rw [hc, hk, hv, mul_comm]
  rfl

end Cert.Proof.RefRead

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Array
public import proofs.«01_k».proof.Proof.RefRead
public import Idealize.ShloMosaic.Adequacy
public import Idealize.ShloMosaic.Init

@[expose] public section

set_option maxRecDepth 16384

noncomputable section

namespace Cert.Proof

open Idealize.ShloMosaic Idealize.SL.Sem Cert.Kernel

/-- The reference runs, leaves its arguments as they were, and declares no semaphore. -/
theorem frame_reference [Cert.ReferenceIdeal.Facts] : Cert.quiescent_ReferenceIdeal := by
  intro m ρ _
  exact (θ_run Cert.ReferenceIdeal.defs _ _).mono (fun r h => ⟨fun c => (h c).2,
      Idealize.ShloMosaic.sem_eq_zero_of_no_sems (by decide) r.2⟩) (Cert.ReferenceIdeal.Value.run (F := Ideal) m ρ)

/-- The three named constants have the values the certificate states. -/
theorem preserves_named : Cert.preserves_Kernel_KernelIdeal :=
  ⟨IdealRules.named_const.statement Cert.KernelIdeal.κ "two_over_sigma" .f32 0x41C80000#32 ((134217728 / 5368709 : ℝ) : EReal) rfl,
    IdealRules.named_const.statement Cert.KernelIdeal.κ "taken" .f32 0x7F61B1E6#32 ⊤ rfl,
    IdealRules.named_const.statement Cert.KernelIdeal.κ "inv_sigma" .f32 0x41480000#32 ((67108864 / 5368709 : ℝ) : EReal) rfl⟩

/-- The kernel's result is the specification's value at every index, whatever the memory it starts from. -/
theorem kernel_result (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v25)
          = fun i : Cert.KernelIdeal.S2x64x1024x20.Idx => Array.entry m c (i 0) (i 1) (i 3) (i 2)) :=
  (θ_run Cert.KernelIdeal.defs _ _).mono (fun _ h c =>
    ((h c).2 Cert.KernelIdeal.main_v25 (Pipeline.mem_restRefs_of Cert.KernelIdeal.main_v25 (by decide) (by decide))).trans
      (Array.result_eq m c)) (Cert.KernelIdeal.Gen.run_main m g)

/-- The reference's result is the specification's value of the kernel's arguments, where it starts from the same ones. -/
theorem reference_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v37 m' c
      = fun i : Cert.KernelIdeal.S2x64x1024x20.Idx => Array.entry m c (i 0) (i 1) (i 3) (i 2) := by
  obtain ⟨h0, h1, h2, h3, h4⟩ := h
  rw [Cert.ReferenceIdeal.Read.val_main_v37_eq, h0, h1, h2, h3, h4]
  funext i
  have hi : i = ValueIdx.ix4 (i 0) (i 1) (i 2) (i 3) := by
    funext a; fin_cases a <;> rfl
  refine (congrArg _ hi).trans ?_
  exact RefRead.result_at _ _ _ _ _ (i 0) (i 1) (i 2) (i 3)

/-- From the same arguments the kernel and the reference end with equal results. -/
theorem equal_results [hK : Cert.KernelIdeal.Facts] [hR : Cert.ReferenceIdeal.Facts] :
    Cert.algebraic_KernelIdeal_ReferenceIdeal := by
  intro m g m' g' _ hargs
  refine ⟨fun c i => Array.entry m c (i 0) (i 1) (i 3) (i 2), ?_, ?_⟩
  · exact (θ_run Cert.KernelIdeal.defs _ _).mono (fun r h c => ⟨h.1 c, h.2 c⟩)
      (θ_run_and (kernel_result m g) (Cert.KernelIdeal.Gen.unchanged m g))
  · exact (θ_run Cert.ReferenceIdeal.defs _ _).mono (fun r h c =>
      ⟨(h c).1.trans (reference_result m m' c (hargs c)), (h c).2⟩) (Cert.ReferenceIdeal.Value.run (F := Ideal) m' g')

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, preserves_named,
  equal_results⟩

end Cert.Proof

end
